-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceByTokenIdeal (m : (ℓ : Loc Cert.ReferenceByTokenIdeal.nD Cert.ReferenceByTokenIdeal.τ Cert.ReferenceByTokenIdeal.sig) → Buf (Elt Ideal) ℓ) : Prop :=
  True

def Pre_ReferenceByTokenIdeal_finite_scores_ReferenceByTokenIdeal [hPre_finite_scores_ReferenceByTokenIdeal : Cert.Pre_finite_scores_ReferenceByTokenIdeal.Facts] (m : (ℓ : Loc Cert.ReferenceByTokenIdeal.nD Cert.ReferenceByTokenIdeal.τ Cert.ReferenceByTokenIdeal.sig) → Buf (Elt Ideal) ℓ) : Prop :=
  ∀ c : Dev Cert.ReferenceByTokenIdeal.nD,
    (Cert.Pre_finite_scores_ReferenceByTokenIdeal.fn (F := Ideal) (m ((c.tc : Thread Cert.ReferenceByTokenIdeal.nD Cert.ReferenceByTokenIdeal.τ).loc Cert.ReferenceByTokenIdeal.main_arg0)) (m ((c.tc : Thread Cert.ReferenceByTokenIdeal.nD Cert.ReferenceByTokenIdeal.τ).loc Cert.ReferenceByTokenIdeal.main_arg1)) (m ((c.tc : Thread Cert.ReferenceByTokenIdeal.nD Cert.ReferenceByTokenIdeal.τ).loc Cert.ReferenceByTokenIdeal.main_arg2)) (m ((c.tc : Thread Cert.ReferenceByTokenIdeal.nD Cert.ReferenceByTokenIdeal.τ).loc Cert.ReferenceByTokenIdeal.main_arg3)) (m ((c.tc : Thread Cert.ReferenceByTokenIdeal.nD Cert.ReferenceByTokenIdeal.τ).loc Cert.ReferenceByTokenIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceByTokenIdeal [hReferenceByTokenIdeal : Cert.ReferenceByTokenIdeal.Facts] : Prop :=
  ∀ (m : (ℓ : Loc Cert.ReferenceByTokenIdeal.nD Cert.ReferenceByTokenIdeal.τ Cert.ReferenceByTokenIdeal.sig) → Buf (Elt Ideal) ℓ) (g : Dev Cert.ReferenceByTokenIdeal.nD → PrngReg), Pre_ReferenceByTokenIdeal m →
    θ_run (Cert.ReferenceByTokenIdeal.defs (F := Ideal)) (onTc (τ := Cert.ReferenceByTokenIdeal.τ) (Cert.ReferenceByTokenIdeal.main (F := Ideal))) ⟨m, fun _ => 0, g⟩ (fun r => (∀ c : Dev Cert.ReferenceByTokenIdeal.nD,
      r.2.mem ((c.tc : Thread Cert.ReferenceByTokenIdeal.nD Cert.ReferenceByTokenIdeal.τ).loc Cert.ReferenceByTokenIdeal.main_arg0) = m ((c.tc : Thread Cert.ReferenceByTokenIdeal.nD Cert.ReferenceByTokenIdeal.τ).loc Cert.ReferenceByTokenIdeal.main_arg0)
      ∧ r.2.mem ((c.tc : Thread Cert.ReferenceByTokenIdeal.nD Cert.ReferenceByTokenIdeal.τ).loc Cert.ReferenceByTokenIdeal.main_arg1) = m ((c.tc : Thread Cert.ReferenceByTokenIdeal.nD Cert.ReferenceByTokenIdeal.τ).loc Cert.ReferenceByTokenIdeal.main_arg1)
      ∧ r.2.mem ((c.tc : Thread Cert.ReferenceByTokenIdeal.nD Cert.ReferenceByTokenIdeal.τ).loc Cert.ReferenceByTokenIdeal.main_arg2) = m ((c.tc : Thread Cert.ReferenceByTokenIdeal.nD Cert.ReferenceByTokenIdeal.τ).loc Cert.ReferenceByTokenIdeal.main_arg2)
      ∧ r.2.mem ((c.tc : Thread Cert.ReferenceByTokenIdeal.nD Cert.ReferenceByTokenIdeal.τ).loc Cert.ReferenceByTokenIdeal.main_arg3) = m ((c.tc : Thread Cert.ReferenceByTokenIdeal.nD Cert.ReferenceByTokenIdeal.τ).loc Cert.ReferenceByTokenIdeal.main_arg3)
      ∧ r.2.mem ((c.tc : Thread Cert.ReferenceByTokenIdeal.nD Cert.ReferenceByTokenIdeal.τ).loc Cert.ReferenceByTokenIdeal.main_arg4) = m ((c.tc : Thread Cert.ReferenceByTokenIdeal.nD Cert.ReferenceByTokenIdeal.τ).loc Cert.ReferenceByTokenIdeal.main_arg4))
      ∧ r.2.sem = fun _ => 0)

def quiescent_ReferenceByTokenIdeal_pre_finite_scores_ReferenceByTokenIdeal [hReferenceByTokenIdeal : Cert.ReferenceByTokenIdeal.Facts] [hPre_finite_scores_ReferenceByTokenIdeal : Cert.Pre_finite_scores_ReferenceByTokenIdeal.Facts] : Prop :=
  ∀ (m : (ℓ : Loc Cert.ReferenceByTokenIdeal.nD Cert.ReferenceByTokenIdeal.τ Cert.ReferenceByTokenIdeal.sig) → Buf (Elt Ideal) ℓ) (g : Dev Cert.ReferenceByTokenIdeal.nD → PrngReg), Pre_ReferenceByTokenIdeal_finite_scores_ReferenceByTokenIdeal m →
    θ_run (Cert.ReferenceByTokenIdeal.defs (F := Ideal)) (onTc (τ := Cert.ReferenceByTokenIdeal.τ) (Cert.ReferenceByTokenIdeal.main (F := Ideal))) ⟨m, fun _ => 0, g⟩ (fun r => (∀ c : Dev Cert.ReferenceByTokenIdeal.nD,
      r.2.mem ((c.tc : Thread Cert.ReferenceByTokenIdeal.nD Cert.ReferenceByTokenIdeal.τ).loc Cert.ReferenceByTokenIdeal.main_arg0) = m ((c.tc : Thread Cert.ReferenceByTokenIdeal.nD Cert.ReferenceByTokenIdeal.τ).loc Cert.ReferenceByTokenIdeal.main_arg0)
      ∧ r.2.mem ((c.tc : Thread Cert.ReferenceByTokenIdeal.nD Cert.ReferenceByTokenIdeal.τ).loc Cert.ReferenceByTokenIdeal.main_arg1) = m ((c.tc : Thread Cert.ReferenceByTokenIdeal.nD Cert.ReferenceByTokenIdeal.τ).loc Cert.ReferenceByTokenIdeal.main_arg1)
      ∧ r.2.mem ((c.tc : Thread Cert.ReferenceByTokenIdeal.nD Cert.ReferenceByTokenIdeal.τ).loc Cert.ReferenceByTokenIdeal.main_arg2) = m ((c.tc : Thread Cert.ReferenceByTokenIdeal.nD Cert.ReferenceByTokenIdeal.τ).loc Cert.ReferenceByTokenIdeal.main_arg2)
      ∧ r.2.mem ((c.tc : Thread Cert.ReferenceByTokenIdeal.nD Cert.ReferenceByTokenIdeal.τ).loc Cert.ReferenceByTokenIdeal.main_arg3) = m ((c.tc : Thread Cert.ReferenceByTokenIdeal.nD Cert.ReferenceByTokenIdeal.τ).loc Cert.ReferenceByTokenIdeal.main_arg3)
      ∧ r.2.mem ((c.tc : Thread Cert.ReferenceByTokenIdeal.nD Cert.ReferenceByTokenIdeal.τ).loc Cert.ReferenceByTokenIdeal.main_arg4) = m ((c.tc : Thread Cert.ReferenceByTokenIdeal.nD Cert.ReferenceByTokenIdeal.τ).loc Cert.ReferenceByTokenIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![32768, 256]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1]⟩ ⟨2, ![32768, 1]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![32768, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def algebraic_KernelIdeal_ReferenceByTokenIdeal_pre_finite_scores_KernelIdeal [hKernelIdeal : Cert.KernelIdeal.Facts] [hReferenceByTokenIdeal : Cert.ReferenceByTokenIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceByTokenIdeal.nD Cert.ReferenceByTokenIdeal.τ Cert.ReferenceByTokenIdeal.sig) → Buf (Elt Ideal) ℓ) (g' : Dev Cert.ReferenceByTokenIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![32768, 256]⟩ 0 32 c (m' (((0 : Dev Cert.ReferenceByTokenIdeal.nD).tc : Thread Cert.ReferenceByTokenIdeal.nD Cert.ReferenceByTokenIdeal.τ).loc Cert.ReferenceByTokenIdeal.main_arg0))
      ∧ m ((c.tc : Thread Cert.KernelIdeal.nD Cert.KernelIdeal.τ).loc Cert.KernelIdeal.main_arg1) = m' (((0 : Dev Cert.ReferenceByTokenIdeal.nD).tc : Thread Cert.ReferenceByTokenIdeal.nD Cert.ReferenceByTokenIdeal.τ).loc Cert.ReferenceByTokenIdeal.main_arg1)
      ∧ m ((c.tc : Thread Cert.KernelIdeal.nD Cert.KernelIdeal.τ).loc Cert.KernelIdeal.main_arg2) = Layout.block ⟨2, ![1024, 1]⟩ ⟨2, ![32768, 1]⟩ 0 32 c (m' (((0 : Dev Cert.ReferenceByTokenIdeal.nD).tc : Thread Cert.ReferenceByTokenIdeal.nD Cert.ReferenceByTokenIdeal.τ).loc Cert.ReferenceByTokenIdeal.main_arg2))
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceByTokenIdeal.nD).tc : Thread Cert.ReferenceByTokenIdeal.nD Cert.ReferenceByTokenIdeal.τ).loc Cert.ReferenceByTokenIdeal.main_arg3))
      ∧ m ((c.tc : Thread Cert.KernelIdeal.nD Cert.KernelIdeal.τ).loc Cert.KernelIdeal.main_arg4) = m' (((0 : Dev Cert.ReferenceByTokenIdeal.nD).tc : Thread Cert.ReferenceByTokenIdeal.nD Cert.ReferenceByTokenIdeal.τ).loc Cert.ReferenceByTokenIdeal.main_arg4)) →
    ∃ (v0 : Buf (Elt Ideal) (((0 : Dev Cert.ReferenceByTokenIdeal.nD).tc : Thread Cert.ReferenceByTokenIdeal.nD Cert.ReferenceByTokenIdeal.τ).loc Cert.ReferenceByTokenIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![32768, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceByTokenIdeal.defs (F := Ideal)) (onTc (τ := Cert.ReferenceByTokenIdeal.τ) (Cert.ReferenceByTokenIdeal.main (F := Ideal))) ⟨m', fun _ => 0, g'⟩ (fun r =>
          r.2.mem (((0 : Dev Cert.ReferenceByTokenIdeal.nD).tc : Thread Cert.ReferenceByTokenIdeal.nD Cert.ReferenceByTokenIdeal.τ).loc Cert.ReferenceByTokenIdeal.main_v22) = v0
          ∧ r.2.mem (((0 : Dev Cert.ReferenceByTokenIdeal.nD).tc : Thread Cert.ReferenceByTokenIdeal.nD Cert.ReferenceByTokenIdeal.τ).loc Cert.ReferenceByTokenIdeal.main_arg0) = m' (((0 : Dev Cert.ReferenceByTokenIdeal.nD).tc : Thread Cert.ReferenceByTokenIdeal.nD Cert.ReferenceByTokenIdeal.τ).loc Cert.ReferenceByTokenIdeal.main_arg0)
          ∧ r.2.mem (((0 : Dev Cert.ReferenceByTokenIdeal.nD).tc : Thread Cert.ReferenceByTokenIdeal.nD Cert.ReferenceByTokenIdeal.τ).loc Cert.ReferenceByTokenIdeal.main_arg1) = m' (((0 : Dev Cert.ReferenceByTokenIdeal.nD).tc : Thread Cert.ReferenceByTokenIdeal.nD Cert.ReferenceByTokenIdeal.τ).loc Cert.ReferenceByTokenIdeal.main_arg1)
          ∧ r.2.mem (((0 : Dev Cert.ReferenceByTokenIdeal.nD).tc : Thread Cert.ReferenceByTokenIdeal.nD Cert.ReferenceByTokenIdeal.τ).loc Cert.ReferenceByTokenIdeal.main_arg2) = m' (((0 : Dev Cert.ReferenceByTokenIdeal.nD).tc : Thread Cert.ReferenceByTokenIdeal.nD Cert.ReferenceByTokenIdeal.τ).loc Cert.ReferenceByTokenIdeal.main_arg2)
          ∧ r.2.mem (((0 : Dev Cert.ReferenceByTokenIdeal.nD).tc : Thread Cert.ReferenceByTokenIdeal.nD Cert.ReferenceByTokenIdeal.τ).loc Cert.ReferenceByTokenIdeal.main_arg3) = m' (((0 : Dev Cert.ReferenceByTokenIdeal.nD).tc : Thread Cert.ReferenceByTokenIdeal.nD Cert.ReferenceByTokenIdeal.τ).loc Cert.ReferenceByTokenIdeal.main_arg3)
          ∧ r.2.mem (((0 : Dev Cert.ReferenceByTokenIdeal.nD).tc : Thread Cert.ReferenceByTokenIdeal.nD Cert.ReferenceByTokenIdeal.τ).loc Cert.ReferenceByTokenIdeal.main_arg4) = m' (((0 : Dev Cert.ReferenceByTokenIdeal.nD).tc : Thread Cert.ReferenceByTokenIdeal.nD Cert.ReferenceByTokenIdeal.τ).loc Cert.ReferenceByTokenIdeal.main_arg4))

def Claim : Prop :=
  ∃ (hKernel : Cert.Kernel.Facts) (hKernelIdeal : Cert.KernelIdeal.Facts) (hReferenceIdeal : Cert.ReferenceIdeal.Facts) (hReferenceByTokenIdeal : Cert.ReferenceByTokenIdeal.Facts) (hPre_finite_scores_KernelIdeal : Cert.Pre_finite_scores_KernelIdeal.Facts) (hPre_finite_scores_ReferenceByTokenIdeal : Cert.Pre_finite_scores_ReferenceByTokenIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceByTokenIdeal (hReferenceByTokenIdeal := hReferenceByTokenIdeal)
    ∧ quiescent_ReferenceByTokenIdeal_pre_finite_scores_ReferenceByTokenIdeal (hReferenceByTokenIdeal := hReferenceByTokenIdeal) (hPre_finite_scores_ReferenceByTokenIdeal := hPre_finite_scores_ReferenceByTokenIdeal)
    ∧ preserves_Kernel_KernelIdeal
    ∧ algebraic_KernelIdeal_ReferenceIdeal (hKernelIdeal := hKernelIdeal) (hReferenceIdeal := hReferenceIdeal)
    ∧ algebraic_KernelIdeal_ReferenceByTokenIdeal_pre_finite_scores_KernelIdeal (hKernelIdeal := hKernelIdeal) (hReferenceByTokenIdeal := hReferenceByTokenIdeal) (hPre_finite_scores_KernelIdeal := hPre_finite_scores_KernelIdeal)
-- ==== Pre_finite_scores_KernelIdeal.lean ====
abbrev S1024x256 : Shape := ⟨2, ![1024, 256]⟩
abbrev S256x128 : Shape := ⟨2, ![256, 128]⟩
abbrev S1024x1 : Shape := ⟨2, ![1024, 1]⟩
abbrev S4x256x512 : Shape := ⟨3, ![4, 256, 512]⟩
abbrev S256x512 : Shape := ⟨2, ![256, 512]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S1024x256 .f32) (main_arg1 : FVec F S256x128 .f32) (main_arg2 : IVec S1024x1 32) (main_arg3 : FVec F S4x256x512 .f32) (main_arg4 : FVec F S256x512 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  main_v8
-- ==== Pre_finite_scores_ReferenceByTokenIdeal.lean ====
abbrev S32768x256 : Shape := ⟨2, ![32768, 256]⟩
abbrev S256x128 : Shape := ⟨2, ![256, 128]⟩
abbrev S32768x1 : Shape := ⟨2, ![32768, 1]⟩
abbrev S128x256x512 : Shape := ⟨3, ![128, 256, 512]⟩
abbrev S256x512 : Shape := ⟨2, ![256, 512]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S32768x256 .f32) (main_arg1 : FVec F S256x128 .f32) (main_arg2 : IVec S32768x1 32) (main_arg3 : FVec F S128x256x512 .f32) (main_arg4 : FVec F S256x512 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  main_v8
-- ==== Kernel.lean ====
abbrev S1024x256 : Shape := ⟨2, ![1024, 256]⟩
abbrev S256x128 : Shape := ⟨2, ![256, 128]⟩
abbrev S1024x1 : Shape := ⟨2, ![1024, 1]⟩
abbrev S4x256x512 : Shape := ⟨3, ![4, 256, 512]⟩
abbrev S256x512 : Shape := ⟨2, ![256, 512]⟩
abbrev S1024x512 : Shape := ⟨2, ![1024, 512]⟩
abbrev S2x4x256x512 : Shape := ⟨4, ![2, 4, 256, 512]⟩
abbrev S2 : Shape := ⟨1, ![2]⟩
abbrev S_ : Shape := ⟨0, ![]⟩
abbrev S1x4x256x512 : Shape := ⟨4, ![1, 4, 256, 512]⟩
abbrev S1 : Shape := ⟨1, ![1]⟩
abbrev S1024x128 : Shape := ⟨2, ![1024, 128]⟩
abbrev S1024 : Shape := ⟨1, ![1024]⟩
abbrev S1024x4 : Shape := ⟨2, ![1024, 4]⟩
abbrev S1x256x512 : Shape := ⟨3, ![1, 256, 512]⟩

abbrev nBuf : Space → Nat
  | .hbm => 6
  | .vmem => 8
  | .smem => 0
  | _ => 0

abbrev bufTy : (tb : Table) → Fin (tcTables nBuf tb) → BufTy
  | .hbm, ⟨0, _⟩ => ⟨S1024x256, .f32⟩
  | .hbm, ⟨1, _⟩ => ⟨S256x128, .f32⟩
  | .hbm, ⟨2, _⟩ => ⟨S1024x1, .i32⟩
  | .hbm, ⟨3, _⟩ => ⟨S4x256x512, .f32⟩
  | .hbm, ⟨4, _⟩ => ⟨S256x512, .f32⟩
  | .hbm, ⟨5, _⟩ => ⟨S1024x512, .f32⟩
  | .local _ .vmem, ⟨0, _⟩ => ⟨S1024x256, .f32⟩
  | .local _ .vmem, ⟨1, _⟩ => ⟨S256x128, .f32⟩
  | .local _ .vmem, ⟨2, _⟩ => ⟨S1024x1, .i32⟩
  | .local _ .vmem, ⟨3, _⟩ => ⟨S4x256x512, .f32⟩
  | .local _ .vmem, ⟨4, _⟩ => ⟨S256x512, .f32⟩
  | .local _ .vmem, ⟨5, _⟩ => ⟨S1024x512, .f32⟩
  | .local _ .vmem, ⟨6, _⟩ => ⟨S2x4x256x512, .f32⟩
  | .local _ .vmem, ⟨7, _⟩ => ⟨S2x4x256x512, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 3 14 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_27 : BitVec 32 := 1#32
  let v23 : BitVec 32 := Scalar.muli v7 c1_i32_27
  let v24 : BitVec 32 := Scalar.addi c0_i32_28 v23
  v24.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_39 : BitVec 32 := 1#32
  let v33 : BitVec 32 := Scalar.muli v5 c1_i32_39
  let v34 : BitVec 32 := Scalar.addi c0_i32_40 v33
  v34.toNat
def k0_dev5 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_94 : BitVec 32 := 1#32
  let v134 : BitVec 32 := Scalar.muli v5 c1_i32_94
  let v135 : BitVec 32 := Scalar.addi c0_i32_95 v134
  v135.toNat
def k0_dev6 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_97 : BitVec 32 := 1#32
  let v136 : BitVec 32 := Scalar.muli v7 c1_i32_97
  let v137 : BitVec 32 := Scalar.addi c0_i32_98 v136
  v137.toNat
def k0_dev7 (d0 : Dev nD) : Nat :=
  let c0_i32_118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_117 : BitVec 32 := 1#32
  let v146 : BitVec 32 := Scalar.muli v7 c1_i32_117
  let v147 : BitVec 32 := Scalar.addi c0_i32_118 v146
  v147.toNat
def k0_dev8 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_143 : BitVec 32 := 1#32
  let v164 : BitVec 32 := Scalar.muli v5 c1_i32_143
  let v165 : BitVec 32 := Scalar.addi c0_i32_144 v164
  v165.toNat
def k0_dev9 (d0 : Dev nD) : Nat :=
  let c0_i32_209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_208 : BitVec 32 := 1#32
  let v299 : BitVec 32 := Scalar.muli v5 c1_i32_208
  let v300 : BitVec 32 := Scalar.addi c0_i32_209 v299
  v300.toNat
def k0_dev10 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_211 : BitVec 32 := 1#32
  let v301 : BitVec 32 := Scalar.muli v7 c1_i32_211
  let v302 : BitVec 32 := Scalar.addi c0_i32_212 v301
  v302.toNat
def k0_dev11 (d0 : Dev nD) : Nat :=
  let c0_i32_232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_231 : BitVec 32 := 1#32
  let v311 : BitVec 32 := Scalar.muli v7 c1_i32_231
  let v312 : BitVec 32 := Scalar.addi c0_i32_232 v311
  v312.toNat
def k0_dev12 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_257 : BitVec 32 := 1#32
  let v329 : BitVec 32 := Scalar.muli v5 c1_i32_257
  let v330 : BitVec 32 := Scalar.addi c0_i32_258 v329
  v330.toNat
def k0_dev13 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_323 : BitVec 32 := 1#32
  let v464 : BitVec 32 := Scalar.muli v5 c1_i32_323
  let v465 : BitVec 32 := Scalar.addi c0_i32_324 v464
  v465.toNat
def k0_dev14 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_326 : BitVec 32 := 1#32
  let v466 : BitVec 32 := Scalar.muli v7 c1_i32_326
  let v467 : BitVec 32 := Scalar.addi c0_i32_327 v466
  v467.toNat
def k0_dev15 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_346 : BitVec 32 := 1#32
  let v476 : BitVec 32 := Scalar.muli v7 c1_i32_346
  let v477 : BitVec 32 := Scalar.addi c0_i32_347 v476
  v477.toNat
def k0_dev16 (d0 : Dev nD) : Nat :=
  let c0_i32_373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_372 : BitVec 32 := 1#32
  let v494 : BitVec 32 := Scalar.muli v5 c1_i32_372
  let v495 : BitVec 32 := Scalar.addi c0_i32_373 v494
  v495.toNat
def k0_dev17 (d0 : Dev nD) : Nat :=
  let c0_i32_438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_437 : BitVec 32 := 1#32
  let v629 : BitVec 32 := Scalar.muli v5 c1_i32_437
  let v630 : BitVec 32 := Scalar.addi c0_i32_438 v629
  v630.toNat
def k0_dev18 (d0 : Dev nD) : Nat :=
  let c0_i32_441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_440 : BitVec 32 := 1#32
  let v631 : BitVec 32 := Scalar.muli v7 c1_i32_440
  let v632 : BitVec 32 := Scalar.addi c0_i32_441 v631
  v632.toNat
def k0_dev19 (d0 : Dev nD) : Nat :=
  let c0_i32_461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_460 : BitVec 32 := 1#32
  let v641 : BitVec 32 := Scalar.muli v7 c1_i32_460
  let v642 : BitVec 32 := Scalar.addi c0_i32_461 v641
  v642.toNat
def k0_dev20 (d0 : Dev nD) : Nat :=
  let c0_i32_487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_486 : BitVec 32 := 1#32
  let v659 : BitVec 32 := Scalar.muli v5 c1_i32_486
  let v660 : BitVec 32 := Scalar.addi c0_i32_487 v659
  v660.toNat
def k0_dev21 (d0 : Dev nD) : Nat :=
  let c0_i32_553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_552 : BitVec 32 := 1#32
  let v794 : BitVec 32 := Scalar.muli v5 c1_i32_552
  let v795 : BitVec 32 := Scalar.addi c0_i32_553 v794
  v795.toNat
def k0_dev22 (d0 : Dev nD) : Nat :=
  let c0_i32_556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_555 : BitVec 32 := 1#32
  let v796 : BitVec 32 := Scalar.muli v7 c1_i32_555
  let v797 : BitVec 32 := Scalar.addi c0_i32_556 v796
  v797.toNat
def k0_dev23 (d0 : Dev nD) : Nat :=
  let c0_i32_576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_575 : BitVec 32 := 1#32
  let v806 : BitVec 32 := Scalar.muli v7 c1_i32_575
  let v807 : BitVec 32 := Scalar.addi c0_i32_576 v806
  v807.toNat
def k0_dev24 (d0 : Dev nD) : Nat :=
  let c0_i32_602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_601 : BitVec 32 := 1#32
  let v824 : BitVec 32 := Scalar.muli v5 c1_i32_601
  let v825 : BitVec 32 := Scalar.addi c0_i32_602 v824
  v825.toNat
def k0_dev25 (d0 : Dev nD) : Nat :=
  let c0_i32_667 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_666 : BitVec 32 := 1#32
  let v959 : BitVec 32 := Scalar.muli v5 c1_i32_666
  let v960 : BitVec 32 := Scalar.addi c0_i32_667 v959
  v960.toNat
def k0_dev26 (d0 : Dev nD) : Nat :=
  let c0_i32_670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_669 : BitVec 32 := 1#32
  let v961 : BitVec 32 := Scalar.muli v7 c1_i32_669
  let v962 : BitVec 32 := Scalar.addi c0_i32_670 v961
  v962.toNat
def k0_dev27 (d0 : Dev nD) : Nat :=
  let c0_i32_690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_689 : BitVec 32 := 1#32
  let v971 : BitVec 32 := Scalar.muli v7 c1_i32_689
  let v972 : BitVec 32 := Scalar.addi c0_i32_690 v971
  v972.toNat
def k0_dev28 (d0 : Dev nD) : Nat :=
  let c0_i32_716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_715 : BitVec 32 := 1#32
  let v989 : BitVec 32 := Scalar.muli v5 c1_i32_715
  let v990 : BitVec 32 := Scalar.addi c0_i32_716 v989
  v990.toNat
def k0_dev29 (d0 : Dev nD) : Nat :=
  let c0_i32_781 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_780 : BitVec 32 := 1#32
  let v1124 : BitVec 32 := Scalar.muli v5 c1_i32_780
  let v1125 : BitVec 32 := Scalar.addi c0_i32_781 v1124
  v1125.toNat
def k0_dev30 (d0 : Dev nD) : Nat :=
  let c0_i32_784 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_783 : BitVec 32 := 1#32
  let v1126 : BitVec 32 := Scalar.muli v7 c1_i32_783
  let v1127 : BitVec 32 := Scalar.addi c0_i32_784 v1126
  v1127.toNat
def k0_dev31 (d0 : Dev nD) : Nat :=
  let c0_i32_804 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_803 : BitVec 32 := 1#32
  let v1136 : BitVec 32 := Scalar.muli v7 c1_i32_803
  let v1137 : BitVec 32 := Scalar.addi c0_i32_804 v1136
  v1137.toNat
def k0_dev32 (d0 : Dev nD) : Nat :=
  let c0_i32_830 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_829 : BitVec 32 := 1#32
  let v1154 : BitVec 32 := Scalar.muli v5 c1_i32_829
  let v1155 : BitVec 32 := Scalar.addi c0_i32_830 v1154
  v1155.toNat
def k0_dev33 (d0 : Dev nD) : Nat :=
  let c0_i32_895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_894 : BitVec 32 := 1#32
  let v1289 : BitVec 32 := Scalar.muli v5 c1_i32_894
  let v1290 : BitVec 32 := Scalar.addi c0_i32_895 v1289
  v1290.toNat
def k0_dev34 (d0 : Dev nD) : Nat :=
  let c0_i32_898 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_897 : BitVec 32 := 1#32
  let v1291 : BitVec 32 := Scalar.muli v7 c1_i32_897
  let v1292 : BitVec 32 := Scalar.addi c0_i32_898 v1291
  v1292.toNat
def k0_dev35 (d0 : Dev nD) : Nat :=
  let c0_i32_918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_917 : BitVec 32 := 1#32
  let v1301 : BitVec 32 := Scalar.muli v7 c1_i32_917
  let v1302 : BitVec 32 := Scalar.addi c0_i32_918 v1301
  v1302.toNat
def k0_dev36 (d0 : Dev nD) : Nat :=
  let c0_i32_944 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_943 : BitVec 32 := 1#32
  let v1319 : BitVec 32 := Scalar.muli v5 c1_i32_943
  let v1320 : BitVec 32 := Scalar.addi c0_i32_944 v1319
  v1320.toNat
def k0_dev37 (d0 : Dev nD) : Nat :=
  let c0_i32_1009 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1008 : BitVec 32 := 1#32
  let v1454 : BitVec 32 := Scalar.muli v5 c1_i32_1008
  let v1455 : BitVec 32 := Scalar.addi c0_i32_1009 v1454
  v1455.toNat
def k0_dev38 (d0 : Dev nD) : Nat :=
  let c0_i32_1012 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1011 : BitVec 32 := 1#32
  let v1456 : BitVec 32 := Scalar.muli v7 c1_i32_1011
  let v1457 : BitVec 32 := Scalar.addi c0_i32_1012 v1456
  v1457.toNat
def k0_dev39 (d0 : Dev nD) : Nat :=
  let c0_i32_1032 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1031 : BitVec 32 := 1#32
  let v1466 : BitVec 32 := Scalar.muli v7 c1_i32_1031
  let v1467 : BitVec 32 := Scalar.addi c0_i32_1032 v1466
  v1467.toNat
def k0_dev40 (d0 : Dev nD) : Nat :=
  let c0_i32_1058 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1057 : BitVec 32 := 1#32
  let v1484 : BitVec 32 := Scalar.muli v5 c1_i32_1057
  let v1485 : BitVec 32 := Scalar.addi c0_i32_1058 v1484
  v1485.toNat
def k0_dev41 (d0 : Dev nD) : Nat :=
  let c0_i32_1123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1122 : BitVec 32 := 1#32
  let v1619 : BitVec 32 := Scalar.muli v5 c1_i32_1122
  let v1620 : BitVec 32 := Scalar.addi c0_i32_1123 v1619
  v1620.toNat
def k0_dev42 (d0 : Dev nD) : Nat :=
  let c0_i32_1126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1125 : BitVec 32 := 1#32
  let v1621 : BitVec 32 := Scalar.muli v7 c1_i32_1125
  let v1622 : BitVec 32 := Scalar.addi c0_i32_1126 v1621
  v1622.toNat
def k0_dev43 (d0 : Dev nD) : Nat :=
  let c0_i32_1146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1145 : BitVec 32 := 1#32
  let v1631 : BitVec 32 := Scalar.muli v7 c1_i32_1145
  let v1632 : BitVec 32 := Scalar.addi c0_i32_1146 v1631
  v1632.toNat
def k0_dev44 (d0 : Dev nD) : Nat :=
  let c0_i32_1172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1171 : BitVec 32 := 1#32
  let v1649 : BitVec 32 := Scalar.muli v5 c1_i32_1171
  let v1650 : BitVec 32 := Scalar.addi c0_i32_1172 v1649
  v1650.toNat
def k0_dev45 (d0 : Dev nD) : Nat :=
  let c0_i32_1237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1236 : BitVec 32 := 1#32
  let v1784 : BitVec 32 := Scalar.muli v5 c1_i32_1236
  let v1785 : BitVec 32 := Scalar.addi c0_i32_1237 v1784
  v1785.toNat
def k0_dev46 (d0 : Dev nD) : Nat :=
  let c0_i32_1240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1239 : BitVec 32 := 1#32
  let v1786 : BitVec 32 := Scalar.muli v7 c1_i32_1239
  let v1787 : BitVec 32 := Scalar.addi c0_i32_1240 v1786
  v1787.toNat
def k0_dev47 (d0 : Dev nD) : Nat :=
  let c0_i32_1260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1259 : BitVec 32 := 1#32
  let v1796 : BitVec 32 := Scalar.muli v7 c1_i32_1259
  let v1797 : BitVec 32 := Scalar.addi c0_i32_1260 v1796
  v1797.toNat
def k0_dev48 (d0 : Dev nD) : Nat :=
  let c0_i32_1286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1285 : BitVec 32 := 1#32
  let v1814 : BitVec 32 := Scalar.muli v5 c1_i32_1285
  let v1815 : BitVec 32 := Scalar.addi c0_i32_1286 v1814
  v1815.toNat
def k0_dev49 (d0 : Dev nD) : Nat :=
  let c0_i32_1351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1350 : BitVec 32 := 1#32
  let v1949 : BitVec 32 := Scalar.muli v5 c1_i32_1350
  let v1950 : BitVec 32 := Scalar.addi c0_i32_1351 v1949
  v1950.toNat
def k0_dev50 (d0 : Dev nD) : Nat :=
  let c0_i32_1354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1353 : BitVec 32 := 1#32
  let v1951 : BitVec 32 := Scalar.muli v7 c1_i32_1353
  let v1952 : BitVec 32 := Scalar.addi c0_i32_1354 v1951
  v1952.toNat
def k0_dev51 (d0 : Dev nD) : Nat :=
  let c0_i32_1374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1373 : BitVec 32 := 1#32
  let v1961 : BitVec 32 := Scalar.muli v7 c1_i32_1373
  let v1962 : BitVec 32 := Scalar.addi c0_i32_1374 v1961
  v1962.toNat
def k0_dev52 (d0 : Dev nD) : Nat :=
  let c0_i32_1400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1399 : BitVec 32 := 1#32
  let v1979 : BitVec 32 := Scalar.muli v5 c1_i32_1399
  let v1980 : BitVec 32 := Scalar.addi c0_i32_1400 v1979
  v1980.toNat
def k0_dev53 (d0 : Dev nD) : Nat :=
  let c0_i32_1465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1464 : BitVec 32 := 1#32
  let v2114 : BitVec 32 := Scalar.muli v5 c1_i32_1464
  let v2115 : BitVec 32 := Scalar.addi c0_i32_1465 v2114
  v2115.toNat
def k0_dev54 (d0 : Dev nD) : Nat :=
  let c0_i32_1468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1467 : BitVec 32 := 1#32
  let v2116 : BitVec 32 := Scalar.muli v7 c1_i32_1467
  let v2117 : BitVec 32 := Scalar.addi c0_i32_1468 v2116
  v2117.toNat
def k0_dev55 (d0 : Dev nD) : Nat :=
  let c0_i32_1488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1487 : BitVec 32 := 1#32
  let v2126 : BitVec 32 := Scalar.muli v7 c1_i32_1487
  let v2127 : BitVec 32 := Scalar.addi c0_i32_1488 v2126
  v2127.toNat
def k0_dev56 (d0 : Dev nD) : Nat :=
  let c0_i32_1514 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1513 : BitVec 32 := 1#32
  let v2144 : BitVec 32 := Scalar.muli v5 c1_i32_1513
  let v2145 : BitVec 32 := Scalar.addi c0_i32_1514 v2144
  v2145.toNat
def k0_dev57 (d0 : Dev nD) : Nat :=
  let c0_i32_1579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1578 : BitVec 32 := 1#32
  let v2279 : BitVec 32 := Scalar.muli v5 c1_i32_1578
  let v2280 : BitVec 32 := Scalar.addi c0_i32_1579 v2279
  v2280.toNat
def k0_dev58 (d0 : Dev nD) : Nat :=
  let c0_i32_1582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1581 : BitVec 32 := 1#32
  let v2281 : BitVec 32 := Scalar.muli v7 c1_i32_1581
  let v2282 : BitVec 32 := Scalar.addi c0_i32_1582 v2281
  v2282.toNat
def k0_dev59 (d0 : Dev nD) : Nat :=
  let c0_i32_1602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1601 : BitVec 32 := 1#32
  let v2291 : BitVec 32 := Scalar.muli v7 c1_i32_1601
  let v2292 : BitVec 32 := Scalar.addi c0_i32_1602 v2291
  v2292.toNat
def k0_dev60 (d0 : Dev nD) : Nat :=
  let c0_i32_1628 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1627 : BitVec 32 := 1#32
  let v2309 : BitVec 32 := Scalar.muli v5 c1_i32_1627
  let v2310 : BitVec 32 := Scalar.addi c0_i32_1628 v2309
  v2310.toNat
def k0_dev61 (d0 : Dev nD) : Nat :=
  let c0_i32_1693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1692 : BitVec 32 := 1#32
  let v2444 : BitVec 32 := Scalar.muli v5 c1_i32_1692
  let v2445 : BitVec 32 := Scalar.addi c0_i32_1693 v2444
  v2445.toNat
def k0_dev62 (d0 : Dev nD) : Nat :=
  let c0_i32_1696 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1695 : BitVec 32 := 1#32
  let v2446 : BitVec 32 := Scalar.muli v7 c1_i32_1695
  let v2447 : BitVec 32 := Scalar.addi c0_i32_1696 v2446
  v2447.toNat
def k0_dev63 (d0 : Dev nD) : Nat :=
  let c0_i32_1716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1715 : BitVec 32 := 1#32
  let v2456 : BitVec 32 := Scalar.muli v7 c1_i32_1715
  let v2457 : BitVec 32 := Scalar.addi c0_i32_1716 v2456
  v2457.toNat
def k0_dev64 (d0 : Dev nD) : Nat :=
  let c0_i32_1782 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1781 : BitVec 32 := 1#32
  let v2593 : BitVec 32 := Scalar.muli v5 c1_i32_1781
  let v2594 : BitVec 32 := Scalar.addi c0_i32_1782 v2593
  v2594.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S32768x256 : Shape := ⟨2, ![32768, 256]⟩
abbrev S256x128 : Shape := ⟨2, ![256, 128]⟩
abbrev S32768x1 : Shape := ⟨2, ![32768, 1]⟩
abbrev S128x256x512 : Shape := ⟨3, ![128, 256, 512]⟩
abbrev S256x512 : Shape := ⟨2, ![256, 512]⟩
abbrev S32768x128 : Shape := ⟨2, ![32768, 128]⟩
abbrev S_ : Shape := ⟨0, ![]⟩
abbrev S32768 : Shape := ⟨1, ![32768]⟩
abbrev S128 : Shape := ⟨1, ![128]⟩
abbrev S1x128 : Shape := ⟨2, ![1, 128]⟩
abbrev S32768x512 : Shape := ⟨2, ![32768, 512]⟩
abbrev S32768x128x1 : Shape := ⟨3, ![32768, 128, 1]⟩
abbrev S32768x1x256 : Shape := ⟨3, ![32768, 1, 256]⟩
abbrev S32768x128x256 : Shape := ⟨3, ![32768, 128, 256]⟩

abbrev nBuf : Space → Nat
  | .hbm => 34
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S256x128, .f32⟩
  | .hbm, ⟨2, _⟩ => ⟨S32768x1, .i32⟩
  | .hbm, ⟨3, _⟩ => ⟨S128x256x512, .f32⟩
  | .hbm, ⟨4, _⟩ => ⟨S256x512, .f32⟩
  | .hbm, ⟨5, _⟩ => ⟨S32768x128, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S32768x128, .f32⟩
  | .hbm, ⟨10, _⟩ => ⟨S32768x128, .f32⟩
  | .hbm, ⟨11, _⟩ => ⟨S32768x128, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S32768x128, .f32⟩
  | .hbm, ⟨16, _⟩ => ⟨S32768x128, .f32⟩
  | .hbm, ⟨17, _⟩ => ⟨S128, .i32⟩
  | .hbm, ⟨18, _⟩ => ⟨S1x128, .i32⟩
  | .hbm, ⟨19, _⟩ => ⟨S32768x128, .i32⟩
  | .hbm, ⟨20, _⟩ => ⟨S32768x128, .i32⟩
  | .hbm, ⟨21, _⟩ => ⟨S32768x128, .i1⟩
  | .hbm, ⟨22, _⟩ => ⟨S_, .f32⟩
  | .hbm, ⟨23, _⟩ => ⟨S_, .f32⟩
  | .hbm, ⟨24, _⟩ => ⟨S32768x128, .f32⟩
  | .hbm, ⟨25, _⟩ => ⟨S32768x128, .f32⟩
  | .hbm, ⟨26, _⟩ => ⟨S32768x512, .f32⟩
  | .hbm, ⟨27, _⟩ => ⟨S32768x128x1, .f32⟩
  | .hbm, ⟨28, _⟩ => ⟨S32768x1x256, .f32⟩
  | .hbm, ⟨29, _⟩ => ⟨S32768x128x256, .f32⟩
  | .hbm, ⟨30, _⟩ => ⟨S32768x128x256, .f32⟩
  | .hbm, ⟨31, _⟩ => ⟨S32768x128x256, .f32⟩
  | .hbm, ⟨32, _⟩ => ⟨S32768x512, .f32⟩
  | .hbm, ⟨33, _⟩ => ⟨S32768x512, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== ReferenceByTokenIdeal.lean ====
abbrev S32768x256 : Shape := ⟨2, ![32768, 256]⟩
abbrev S256x128 : Shape := ⟨2, ![256, 128]⟩
abbrev S32768x1 : Shape := ⟨2, ![32768, 1]⟩
abbrev S128x256x512 : Shape := ⟨3, ![128, 256, 512]⟩
abbrev S256x512 : Shape := ⟨2, ![256, 512]⟩
abbrev S32768x128 : Shape := ⟨2, ![32768, 128]⟩
abbrev S_ : Shape := ⟨0, ![]⟩
abbrev S32768 : Shape := ⟨1, ![32768]⟩
abbrev S128 : Shape := ⟨1, ![128]⟩
abbrev S1x128 : Shape := ⟨2, ![1, 128]⟩
abbrev S32768x128x512 : Shape := ⟨3, ![32768, 128, 512]⟩
abbrev S32768x512 : Shape := ⟨2, ![32768, 512]⟩
abbrev S32768x128x1 : Shape := ⟨3, ![32768, 128, 1]⟩

abbrev nBuf : Space → Nat
  | .hbm => 34
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S256x128, .f32⟩
  | .hbm, ⟨2, _⟩ => ⟨S32768x1, .i32⟩
  | .hbm, ⟨3, _⟩ => ⟨S128x256x512, .f32⟩
  | .hbm, ⟨4, _⟩ => ⟨S256x512, .f32⟩
  | .hbm, ⟨5, _⟩ => ⟨S32768x128, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S32768x128, .f32⟩
  | .hbm, ⟨10, _⟩ => ⟨S32768x128, .f32⟩
  | .hbm, ⟨11, _⟩ => ⟨S32768x128, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S32768x128, .f32⟩
  | .hbm, ⟨16, _⟩ => ⟨S32768x128, .f32⟩
  | .hbm, ⟨17, _⟩ => ⟨S128, .i32⟩
  | .hbm, ⟨18, _⟩ => ⟨S1x128, .i32⟩
  | .hbm, ⟨19, _⟩ => ⟨S32768x128, .i32⟩
  | .hbm, ⟨20, _⟩ => ⟨S32768x128, .i32⟩
  | .hbm, ⟨21, _⟩ => ⟨S32768x128, .i1⟩
  | .hbm, ⟨22, _⟩ => ⟨S_, .f32⟩
  | .hbm, ⟨23, _⟩ => ⟨S_, .f32⟩
  | .hbm, ⟨24, _⟩ => ⟨S32768x128, .f32⟩
  | .hbm, ⟨25, _⟩ => ⟨S32768x128, .f32⟩
  | .hbm, ⟨26, _⟩ => ⟨S32768x128x512, .f32⟩
  | .hbm, ⟨27, _⟩ => ⟨S32768x512, .f32⟩
  | .hbm, ⟨28, _⟩ => ⟨S32768x128x1, .f32⟩
  | .hbm, ⟨29, _⟩ => ⟨S32768x128x512, .f32⟩
  | .hbm, ⟨30, _⟩ => ⟨S32768x128x512, .f32⟩
  | .hbm, ⟨31, _⟩ => ⟨S_, .f32⟩
  | .hbm, ⟨32, _⟩ => ⟨S32768x512, .f32⟩
  | .hbm, ⟨33, _⟩ => ⟨S32768x512, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Proof.Prog.lean ====
/-
The kernel's body as a loop of rounds. The printed body is 16 unrolled ring steps; here it is a prologue, a
recursion over the steps, two short last steps and an epilogue, with the direction of travel (right or left) and
the step number as parameters. `body_eq` says the printed body is this program.
-/
module

public import proofs.«01_k».proof.Proof.Gen.KernelIdeal
public import proofs.«01_k».proof.Proof.Gen.KernelIdeal.Skeleton

@[expose] public section

noncomputable section

namespace Cert.Ring

open Cert.KernelIdeal Cert.KernelIdeal.Gen
open Idealize.ShloMosaic
open Idealize.SL Idealize.SL.Sem

variable {F : FTy → Type} [FloatOps F]

/-! ## Slots, semaphores, staging buffers -/

/-- The slot a step number names. -/
def par (h : ℕ) : Fin 2 := ⟨h % 2, Nat.mod_lt _ (by decide)⟩

/-- The two communication buffers: `true` travels right, `false` left. -/
abbrev buf : Bool → Memref sig .tc .vmem S2x4x256x512 .f32
  | true => Memref.whole cc0_scratch0
  | false => Memref.whole cc0_scratch1

theorem inb_slot (i : Fin 2) : ∀ a, (![i.val, 0, 0, 0] : Fin 4 → Nat) a + S1x4x256x512.size a ≤ S2x4x256x512.size a := by
  revert i; decide

/-- The rectangle of slot `i`. -/
abbrev slotR (i : Fin 2) : Rect S2x4x256x512 :=
  Rect.unit (s := S2x4x256x512) ![i.val, 0, 0, 0] S1x4x256x512.size (inb_slot i)

/-- Slot `i` of a communication buffer, as the transfers name it. -/
abbrev slotM (dir : Bool) (i : Fin 2) : Memref sig .tc .vmem S4x256x512 .f32 :=
  ((buf dir).slice (slotR i) (fun _ => rfl)).squeeze S4x256x512 squeezes_S1x4x256x512_S4x256x512

/-- The send semaphore of slot `i`. -/
abbrev semS : Bool → Fin 2 → DmaSem sig
  | true, i => ⟨6 + i.val, by have := i.isLt; show _ < 14; omega⟩
  | false, i => ⟨10 + i.val, by have := i.isLt; show _ < 14; omega⟩

/-- The receive semaphore of slot `i`. -/
abbrev semV : Bool → Fin 2 → DmaSem sig
  | true, i => ⟨8 + i.val, by have := i.isLt; show _ < 14; omega⟩
  | false, i => ⟨12 + i.val, by have := i.isLt; show _ < 14; omega⟩

/-- The credit semaphore of a direction. -/
abbrev semC : Bool → Sem sig
  | true => ⟨0, by decide⟩
  | false => ⟨1, by decide⟩

/-- The runtime's barrier semaphore. -/
abbrev semB : Sem sig := ⟨2, by decide⟩

abbrev xM : Memref sig .tc .vmem S1024x256 .f32 := Memref.whole cc0_stg0_0
abbrev rwM : Memref sig .tc .vmem S256x128 .f32 := Memref.whole cc0_stg1_0
abbrev idxM : Memref sig .tc .vmem S1024x1 .i32 := Memref.whole cc0_stg2_0
abbrev ewM : Memref sig .tc .vmem S4x256x512 .f32 := Memref.whole cc0_stg3_0
abbrev swM : Memref sig .tc .vmem S256x512 .f32 := Memref.whole cc0_stg4_0
abbrev oM : Memref sig .tc .vmem S1024x512 .f32 := Memref.whole cc0_stg5_0

/-! ## The values -/

/-- What one expert of a block adds: the rows of `x` scaled by that expert's column of `sl`, times its weights. -/
def expertV (x : FVec F S1024x256 .f32) (sl : FVec F S1024x4 .f32) (W : FVec F S4x256x512 .f32) (off : Fin 4)
    (h1 : S1024x4.Slices ![0, off.val] S1024x1) (h2 : S4x256x512.Slices ![off.val, 0, 0] S1x256x512) : FVec F S1024x512 .f32 :=
  matmul dot_S1024x256_S256x512_S1024x512_1_0_0_1_n_n none
    (mulf x (broadcastTo S1024x256 (shapeCast S1024x1 (shapeCast S1024 (extractStridedSlice S1024x1 ![0, off.val] sl h1) shapeCasts_S1024x1_S1024) shapeCasts_S1024_S1024x1) broadcasts_S1024x1_S1024x256))
    (shapeCast S256x512 (extractStridedSlice S1x256x512 ![off.val, 0, 0] W h2) shapeCasts_S1x256x512_S256x512)
    (constant S1024x512 .f32 0x00000000#32)

/-- The token weights against the four experts of device `src`: the router's weight where the token chose it, else 0. -/
def selV (idx : IVec S1024 32) (p : FVec F S1024 .f32) (src : BitVec 32) : FVec F S1024x4 .f32 :=
  select
    (cmpi .eq (broadcastTo S1024x4 (shapeCast S1024x1 idx shapeCasts_S1024_S1024x1) broadcasts_S1024x1_S1024x4)
      (addi (iota .tc S1024x4 32 [1] iota_S1024x4_d1_w32) (broadcast S1024x4 (Scalar.muli src 4#32))))
    (broadcastTo S1024x4 (shapeCast S1024x1 (shapeCast S1024x1 p shapeCasts_S1024_S1024x1) shapeCasts_S1024x1_S1024x1) broadcasts_S1024x1_S1024x4)
    (broadcast S1024x4 (Scalar.ofBits .f32 0x00000000#32))

/-- One block of four experts' contribution to the tokens of this device. -/
def contribV (x : FVec F S1024x256 .f32) (idx : IVec S1024 32) (p : FVec F S1024 .f32) (src : BitVec 32)
    (W : FVec F S4x256x512 .f32) : FVec F S1024x512 .f32 :=
  addf (addf (addf (addf (broadcast S1024x512 (Scalar.ofBits .f32 0x00000000#32))
      (expertV x (selV idx p src) W 0 slices_S1024x4_o0_0_S1024x1 slices_S4x256x512_o0_0_0_S1x256x512))
      (expertV x (selV idx p src) W 1 slices_S1024x4_o0_1_S1024x1 slices_S4x256x512_o1_0_0_S1x256x512))
      (expertV x (selV idx p src) W 2 slices_S1024x4_o0_2_S1024x1 slices_S4x256x512_o2_0_0_S1x256x512))
      (expertV x (selV idx p src) W 3 slices_S1024x4_o0_3_S1024x1 slices_S4x256x512_o3_0_0_S1x256x512)

/-- This device's position on the ring, as a word. -/
def word (d0 : Dev nD) : BitVec 32 := Scalar.remsi (Scalar.divsi (Dev.word d0) 1#32) 32#32

/-- The ring position whose weights arrive at step `h` in a direction. -/
def srcV (d0 : Dev nD) : Bool → ℕ → BitVec 32
  | true, h => Scalar.remsi (Scalar.addi (Scalar.subi (word d0) (BitVec.ofNat 32 (h + 1))) 32#32) 32#32
  | false, h => Scalar.remsi (Scalar.addi (word d0) (BitVec.ofNat 32 (h + 1))) 32#32

/-! ## The program -/

abbrev oR : Rect S1024x512 := Rect.unit (s := S1024x512) ![0, 0] S1024x512.size inb_S1024x512_S1024x512_0_0

def loadO : Prog (TpuEff nD τ sig (Elt F) Λ₀ .tc) (Vec F S1024x512 .f32) := Prog.lift (.load oM oR.toLoadRect (View.loadsAt_vmem h_S1024x512))
def storeO (v : Vec F S1024x512 .f32) : Prog (TpuEff nD τ sig (Elt F) Λ₀ .tc) PUnit :=
  Prog.lift (.store oM oR v Finset.univ (View.stores_vmem_bits_univ h_S1024x512 rfl) (.inl rfl))

def loadW : Prog (TpuEff nD τ sig (Elt F) Λ₀ .tc) (Vec F S4x256x512 .f32) :=
  Prog.lift (.load ewM (Rect.unit (s := S4x256x512) ![0, 0, 0] S4x256x512.size inb_S4x256x512_S4x256x512_0_0_0).toLoadRect (View.loadsAt_vmem h_S4x256x512))

def loadSlot (dir : Bool) (i : Fin 2) : Prog (TpuEff nD τ sig (Elt F) Λ₀ .tc) (Vec F S1x4x256x512 .f32) :=
  Prog.lift (.load (buf dir) (slotR i).toLoadRect (View.loadsAt_vmem h_S1x4x256x512))

/-- This device's weights into slot 0 of a buffer. -/
def fill (dir : Bool) : Prog (TpuEff nD τ sig (Elt F) Λ₀ .tc) PUnit := do
  let v ← loadW
  let _ ← loadSlot dir 0
  Prog.lift (.store (buf dir) (slotR 0) (shapeCast S1x4x256x512 (shapeCast S4x256x512 v shapeCasts_S4x256x512_S4x256x512) shapeCasts_S4x256x512_S1x4x256x512) Finset.univ
    (View.stores_vmem_bits_univ h_S1x4x256x512 rfl) (.inl rfl))

/-- Transfer `h` of a direction: slot `h % 2` to slot `(h + 1) % 2` of the device `n`. -/
def send (dir : Bool) (h : ℕ) (n : Dev nD) : Prog (TpuEff nD τ sig (Elt F) Λ₀ .tc) PUnit :=
  Prog.lift (.enqueueDma (slotM dir (par h)) (.remote (Dev.tc n) (slotM dir (par (h + 1))) (.dma (semS dir (par h))) (by cases dir <;> rfl)) (.dma (semV dir (par (h + 1))))
    ((View.wordExact_bits rfl).reshape _ _) ((View.wordExact_bits rfl).reshape _ _) ⟨⟨rfl, Or.inl rfl⟩, trivial⟩)

def waitSend (dir : Bool) (h : ℕ) : Prog (TpuEff nD τ sig (Elt F) Λ₀ .tc) PUnit :=
  Prog.lift (.waitDma2 (semS dir (par h)) (slotM dir (par (h + 1))) (slotM dir (par h)) ((View.wordExact_bits rfl).reshape _ _) ((View.wordExact_bits rfl).reshape _ _))

def waitRecv (dir : Bool) (h : ℕ) : Prog (TpuEff nD τ sig (Elt F) Λ₀ .tc) PUnit :=
  Prog.lift (.waitDma2 (semV dir (par (h + 1))) (slotM dir (par h)) (slotM dir (par (h + 1))) ((View.wordExact_bits rfl).reshape _ _) ((View.wordExact_bits rfl).reshape _ _))

def credit (dir : Bool) (n : Dev nD) : Prog (TpuEff nD τ sig (Elt F) Λ₀ .tc) PUnit := semSignalWord n (semC dir) 1#32
def waitCredit (dir : Bool) : Prog (TpuEff nD τ sig (Elt F) Λ₀ .tc) PUnit := semWaitWord (semC dir) 1#32

/-- Add the contribution of the block that arrived at step `h`. -/
def addRound (d0 : Dev nD) (x : FVec F S1024x256 .f32) (idx : IVec S1024 32) (p : FVec F S1024 .f32) (dir : Bool) (h : ℕ) : Prog (TpuEff nD τ sig (Elt F) Λ₀ .tc) PUnit := do
  let v ← loadO
  let w ← loadSlot dir (par (h + 1))
  let _ ← loadO
  storeO (addf (shapeCast S1024x512 v shapeCasts_S1024x512_S1024x512)
    (contribV x idx p (srcV d0 dir h) (shapeCast S4x256x512 w shapeCasts_S1x4x256x512_S4x256x512)))

/-- The left neighbour, as the kernel computes it, and the right one. -/
abbrev lft (d0 : Dev nD) : Dev nD := ⟨k0_dev1 d0, k0_dev1_lt d0⟩
abbrev rgt (d0 : Dev nD) : Dev nD := ⟨k0_dev2 d0, k0_dev2_lt d0⟩

/-- The neighbour a direction sends to, and the one it receives from. -/
abbrev toward (d0 : Dev nD) : Bool → Dev nD
  | true => rgt d0
  | false => lft d0
abbrev behind (d0 : Dev nD) : Bool → Dev nD
  | true => lft d0
  | false => rgt d0

/-- A full step: both directions send on and take in. -/
def step (d0 : Dev nD) (x : FVec F S1024x256 .f32) (idx : IVec S1024 32) (p : FVec F S1024 .f32) (h : ℕ) : Prog (TpuEff nD τ sig (Elt F) Λ₀ .tc) PUnit := do
  waitSend true h; waitSend false h
  credit true (behind d0 true); credit false (behind d0 false)
  waitRecv true h; waitCredit true; send true (h + 1) (toward d0 true)
  waitRecv false h; waitCredit false; send false (h + 1) (toward d0 false)
  addRound d0 x idx p true h; addRound d0 x idx p false h

/-- `k` full steps from step `h` on. -/
def steps (d0 : Dev nD) (x : FVec F S1024x256 .f32) (idx : IVec S1024 32) (p : FVec F S1024 .f32) : ℕ → ℕ → Prog (TpuEff nD τ sig (Elt F) Λ₀ .tc) PUnit
  | 0, _ => pure ⟨⟩
  | k + 1, h => do step d0 x idx p h; steps d0 x idx p k (h + 1)

/-- Step 14: the last one that travels left. -/
def step14 (d0 : Dev nD) (x : FVec F S1024x256 .f32) (idx : IVec S1024 32) (p : FVec F S1024 .f32) : Prog (TpuEff nD τ sig (Elt F) Λ₀ .tc) PUnit := do
  waitSend true 14; waitSend false 14
  credit true (behind d0 true); credit false (behind d0 false)
  waitRecv true 14; waitCredit true; send true 15 (toward d0 true)
  waitRecv false 14
  addRound d0 x idx p true 14; addRound d0 x idx p false 14

/-- Step 15: the last one, right only. -/
def step15 (d0 : Dev nD) (x : FVec F S1024x256 .f32) (idx : IVec S1024 32) (p : FVec F S1024 .f32) : Prog (TpuEff nD τ sig (Elt F) Λ₀ .tc) PUnit := do
  waitSend true 15
  credit true (behind d0 true)
  waitRecv true 15
  addRound d0 x idx p true 15

/-- The barrier, the buffers' filling and the two first transfers. -/
def enter (d0 : Dev nD) : Prog (TpuEff nD τ sig (Elt F) Λ₀ .tc) PUnit := do
  semSignalWord (lft d0) semB 1#32
  semSignalWord (rgt d0) semB 1#32
  semWaitWord semB 2#32
  fill true; fill false
  send true 0 (toward d0 true); send false 0 (toward d0 false)

/-- The initial result: the shared expert's and this device's own experts'. -/
def homeV (d0 : Dev nD) (x : Vec F S1024x256 .f32) (rw : Vec F S256x128 .f32) (idx : Vec F S1024x1 .i32)
    (sw : Vec F S256x512 .f32) (ew : Vec F S4x256x512 .f32) : FVec F S1024x512 .f32 :=
  addf (k0_pay8 (k0_pay4 x) sw) (contribV (k0_pay4 x) (k0_pay6 idx) (k0_pay7 (k0_pay5 x rw) idx) (word d0)
    (shapeCast S4x256x512 ew shapeCasts_S4x256x512_S4x256x512))

/-- The whole program. -/
def prog : Prog (TpuEff nD τ sig (Elt F) Λ₀ .tc) PUnit := do
  let d0 ← Prog.lift .deviceId
  enter d0
  let x ← Prog.lift (.load xM (Rect.unit (s := S1024x256) ![0, 0] S1024x256.size inb_S1024x256_S1024x256_0_0).toLoadRect (View.loadsAt_vmem h_S1024x256))
  let rw ← Prog.lift (.load rwM (Rect.unit (s := S256x128) ![0, 0] S256x128.size inb_S256x128_S256x128_0_0).toLoadRect (View.loadsAt_vmem h_S256x128))
  let idx ← Prog.lift (.load idxM (Rect.unit (s := S1024x1) ![0, 0] S1024x1.size inb_S1024x1_S1024x1_0_0).toLoadRect (View.loadsAt_vmem h_S1024x1))
  let sw ← Prog.lift (.load swM (Rect.unit (s := S256x512) ![0, 0] S256x512.size inb_S256x512_S256x512_0_0).toLoadRect (View.loadsAt_vmem h_S256x512))
  let ew ← loadW
  let _ ← loadO
  storeO (homeV d0 x rw idx sw ew)
  steps d0 (k0_pay4 x) (k0_pay6 idx) (k0_pay7 (k0_pay5 x rw) idx) 14 0
  step14 d0 (k0_pay4 x) (k0_pay6 idx) (k0_pay7 (k0_pay5 x rw) idx)
  step15 d0 (k0_pay4 x) (k0_pay6 idx) (k0_pay7 (k0_pay5 x rw) idx)
  waitCredit true; waitCredit false

end Cert.Ring

end
-- ==== Proof.Sched.lean ====
/-
The ring protocol. Every device has eleven semaphores of its own: the barrier, two send and two receive semaphores
in each of the two directions, and a credit semaphore in each direction. What each completion hands over is stated
here as a schedule of rounds, uniformly in the direction:
* transfer `h` completes the sender's send semaphore `h % 2` (giving back half of the source slot) and the
  receiver's receive semaphore `(h + 1) % 2` (giving it that slot, with the weights that travelled);
* a credit and the barrier carry only facts: which slots of the next device have been released to the writer.
  A released slot itself waits in an invariant, where the writer takes it with its token for that write.
-/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Tactic
public import Mathlib.Algebra.Order.BigOperators.Group.LocallyFinite

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

/-! ## The algebra -/

/-- A slot of a device's buffer: device, direction, slot. -/
abbrev Key : Type := Dev nD × Bool × Fin 2
abbrev UX : Type := URounds (GSem nD τ sig) ℕ × USlots Key
abbrev UU : Type := UR sig nD τ × UX

local notation "𝕄" => MT nD τ sig ℕ (Elt F) ℕ UU ℕ

abbrev EP : Emb (UR sig nD τ) (MT nD τ sig ℕ (Elt F) ℕ UU ℕ) := embL
abbrev EX : Emb UX (MT nD τ sig ℕ (Elt F) ℕ UU ℕ) := embR
abbrev ER : Emb (URounds (GSem nD τ sig) ℕ) (MT nD τ sig ℕ (Elt F) ℕ UU ℕ) := (Emb.inl : Emb _ UX).trans EX
abbrev ES : Emb (USlots Key) (MT nD τ sig ℕ (Elt F) ℕ UU ℕ) := (Emb.inr : Emb _ UX).trans EX

/-! ## The ring -/

/-- The device a direction sends to: the right neighbour or the left one. -/
def nxt : Bool → Dev nD → Dev nD
  | true, c => ⟨(c.val + 1) % 32, Nat.mod_lt _ (by decide)⟩
  | false, c => ⟨(c.val + 31) % 32, Nat.mod_lt _ (by decide)⟩

theorem nxt_not_nxt (dir : Bool) (c : Dev nD) : nxt (!dir) (nxt dir c) = c := by
  revert c; cases dir <;> decide
theorem nxt_nxt_not (dir : Bool) (c : Dev nD) : nxt dir (nxt (!dir) c) = c := by
  revert c; cases dir <;> decide

/-- The ring's rotation in a direction. -/
def ring (dir : Bool) : Dev nD ≃ Dev nD := ⟨nxt dir, nxt (!dir), nxt_not_nxt dir, nxt_nxt_not dir⟩

theorem rgt_eq (c : Dev nD) : rgt c = nxt true c := Fin.ext (k0_dev2_eq c)
theorem lft_eq (c : Dev nD) : lft c = nxt false c := Fin.ext (k0_dev1_eq c)

/-- The device whose weights `c` holds before step `h`. -/
def org (c : Dev nD) : Bool → ℕ → Dev nD
  | true, h => ⟨(c.val + 31 * h) % 32, Nat.mod_lt _ (by decide)⟩
  | false, h => ⟨(c.val + h) % 32, Nat.mod_lt _ (by decide)⟩

theorem org_zero (c : Dev nD) (dir : Bool) : org c dir 0 = c := by
  have := c.isLt
  cases dir <;> refine Fin.ext ?_ <;> simp only [org] <;> exact Nat.mod_eq_of_lt this

theorem org_nxt (c : Dev nD) (dir : Bool) (h : ℕ) : org (nxt dir c) dir (h + 1) = org c dir h := by
  cases dir <;> refine Fin.ext ?_ <;> simp only [org, nxt] <;> omega

/-- The number of transfers in a direction. -/
abbrev len : Bool → ℕ
  | true => 16
  | false => 15

/-! ## The cells -/

abbrev bC (c : Dev nD) : GSem nD τ sig := ((c : Thread nD τ), .reg semB)
abbrev sC (dir : Bool) (i : Fin 2) (c : Dev nD) : GSem nD τ sig := ((c : Thread nD τ), .dma (semS dir i))
abbrev vC (dir : Bool) (i : Fin 2) (c : Dev nD) : GSem nD τ sig := ((c : Thread nD τ), .dma (semV dir i))
abbrev cC (dir : Bool) (c : Dev nD) : GSem nD τ sig := ((c : Thread nD τ), .reg (semC dir))

/-- What a semaphore is for. -/
inductive Kd where
  | bar | snd (dir : Bool) (i : Fin 2) | rcv (dir : Bool) (i : Fin 2) | crd (dir : Bool) | oth
  deriving DecidableEq

def kind : SemLoc sig → Kd
  | .reg s => if s.val = 0 then .crd true else if s.val = 1 then .crd false else .bar
  | .dma s => if s.val < 6 then .oth
      else if s.val < 8 then .snd true ⟨s.val % 2, Nat.mod_lt _ (by decide)⟩
      else if s.val < 10 then .rcv true ⟨s.val % 2, Nat.mod_lt _ (by decide)⟩
      else if s.val < 12 then .snd false ⟨s.val % 2, Nat.mod_lt _ (by decide)⟩
      else .rcv false ⟨s.val % 2, Nat.mod_lt _ (by decide)⟩

theorem kind_bar : kind (.reg semB) = .bar := by decide
theorem kind_snd (dir : Bool) (i : Fin 2) : kind (.dma (semS dir i)) = .snd dir i := by revert i; cases dir <;> decide
theorem kind_rcv (dir : Bool) (i : Fin 2) : kind (.dma (semV dir i)) = .rcv dir i := by revert i; cases dir <;> decide
theorem kind_crd (dir : Bool) : kind (.reg (semC dir)) = .crd dir := by cases dir <;> decide

/-- The bytes a transfer credits. -/
abbrev N : ℕ := (slotM true 0).view.dmaCredit
theorem N_pos : 0 < N := View.dmaCredit_pos _ (by decide)

theorem credit_eq (dir : Bool) (i : Fin 2) : (slotM dir i).view.dmaCredit = N := by cases dir <;> rfl

/-! ## Slots -/

variable (wt : Dev nD → Vec F S4x256x512 .f32)

/-- Slot `i` of device `c`'s buffer at a share, holding `X`. -/
def slotP (dir : Bool) (i : Fin 2) (c : Dev nD) (q : PosShare TreeShare) (X : Vec F S4x256x512 .f32) : sProp 𝕄 :=
  owns (Ix := ℕ) (Name := ℕ) (U := UU) (Lvl := ℕ) (c : Thread nD τ) (slotM dir i) q X

/-- The same with any contents, the whole share: what a writer needs. -/
def freeP (k : Key) : sProp 𝕄 :=
  Release.slot (Val := Elt F) ((slotM k.2.1 k.2.2).view.loc (k.1 : Thread nD τ)) (slotM k.2.1 k.2.2).view.set

instance slotP_storable (dir i c q X) : BI.Storable (upEmb : UEmb _ 𝕄) (slotP (F := F) dir i c q X) := by
  unfold slotP; infer_instance
instance freeP_storable (k : Key) : BI.Storable (upEmb : UEmb _ 𝕄) (freeP (F := F) k) := by
  unfold freeP; infer_instance

/-- The fact that write `w` of device `b` may start: the slot it goes to has been released, and the receiver has taken
    all earlier transfers into that slot. -/
def fact (dir : Bool) (b : Dev nD) (w : ℕ) : sProp 𝕄 :=
  iprop(released ES (nxt dir b, dir, par (w + 1)) (w / 2 + 1) ∗ reached ER (vC dir (par (w + 1)) (nxt dir b)) (w / 2))

/-- The facts for the writes before `k`. -/
def facts (dir : Bool) (b : Dev nD) (k : ℕ) : sProp 𝕄 := bigSep (Finset.range k) fun w => fact (F := F) dir b w

instance fact_persistent (dir b w) : BI.Persistent (fact (F := F) dir b w) := by unfold fact; infer_instance
instance facts_persistent (dir b k) : BI.Persistent (facts (F := F) dir b k) := by unfold facts; infer_instance
instance fact_storable (dir b w) : BI.Storable (upEmb : UEmb _ 𝕄) (fact (F := F) dir b w) := by unfold fact; infer_instance
instance facts_storable (dir b k) : BI.Storable (upEmb : UEmb _ 𝕄) (facts (F := F) dir b k) := by unfold facts; infer_instance

/-! ## The schedule -/

/-- The direction a barrier duty speaks for. -/
abbrev dirOf (d : ℕ) : Bool := d == 1
/-- and the duty of a direction. -/
abbrev dutyOf : Bool → ℕ
  | true => 1
  | false => 0

/-- What a semaphore's duty `d` in round `r` hands to its device `c`. -/
def pay (c : Dev nD) (k : Kd) (r d : ℕ) : sProp 𝕄 :=
  match k with
  | .bar => facts (dirOf d) c 1
  | .snd dir i => slotP dir i c fullShare.right (wt (org c dir (2 * r + i.val)))
  | .rcv dir i => slotP dir i c fullShare (wt (org c dir (2 * r + 2 - i.val)))
  | .crd dir => facts dir c (min (d + 2) (len dir))
  | .oth => iprop(emp)

/-- The duties of a semaphore in round `r`. -/
def dues (k : Kd) (r : ℕ) : Finset ℕ :=
  match k with
  | .bar => if r = 0 then {0, 1} else ∅
  | .snd dir i => if 2 * r + i.val < len dir then {0} else ∅
  | .rcv dir i => if 2 * r + 1 - i.val < len dir then {0} else ∅
  | .crd dir => if r = 0 then Finset.range (len dir) else ∅
  | .oth => ∅

/-- A duty's units. -/
def amt (k : Kd) : ℕ :=
  match k with
  | .snd _ _ => N
  | .rcv _ _ => N
  | _ => 1

/-- The ring's schedule. -/
def Rd : Rounds.Schedule (GSem nD τ sig) ℕ 𝕄 where
  duties g r := if g.1.2 = .tc then dues (kind g.2) r else ∅
  unitless _ := False
  amount g _ _ := amt (kind g.2)
  payload g r d := pay wt g.1.1 (kind g.2) r d
  amount_pos g _ _ _ := by
    cases kind g.2 <;> first | exact N_pos | exact Nat.one_pos

instance pay_storable (c k r d) : BI.Storable (upEmb : UEmb _ 𝕄) (pay (F := F) wt c k r d) := by
  unfold pay; split <;> infer_instance

instance Rd_payload_storable (g : GSem nD τ sig) (r d : ℕ) : BI.Storable (upEmb : UEmb _ 𝕄) ((Rd (F := F) wt).payload g r d) :=
  pay_storable wt g.1.1 (kind g.2) r d

section Sched
variable (c : Dev nD) (dir : Bool)

theorem duties_tc (s : SemLoc sig) (r : ℕ) : (Rd wt).duties ((c : Thread nD τ), s) r = dues (kind s) r := by
  dsimp only [Rd]; exact if_pos rfl
theorem duties_bar : (Rd wt).duties (bC c) 0 = {0, 1} := by
  rw [duties_tc, kind_bar]; rfl
theorem duties_snd {h : ℕ} (hh : h < len dir) : (Rd wt).duties (sC dir (par h) c) (h / 2) = {0} := by
  rw [duties_tc, kind_snd]
  exact if_pos (by show 2 * (h / 2) + h % 2 < _; omega)
theorem duties_rcv {h : ℕ} (hh : h < len dir) : (Rd wt).duties (vC dir (par (h + 1)) c) (h / 2) = {0} := by
  rw [duties_tc, kind_rcv]
  exact if_pos (by show 2 * (h / 2) + 1 - (h + 1) % 2 < _; omega)
theorem duties_crd : (Rd wt).duties (cC dir c) 0 = Finset.range (len dir) := by
  rw [duties_tc, kind_crd]; rfl

theorem duties_snd_done {i : Fin 2} {R : ℕ} (hR : len dir ≤ 2 * R + i.val) : ∀ r, R ≤ r → (Rd wt).duties (sC dir i c) r = ∅ := fun r hr => by
  rw [duties_tc, kind_snd]
  exact if_neg (by omega)
theorem duties_rcv_done {i : Fin 2} {R : ℕ} (hR : len dir ≤ 2 * R + 1 - i.val) : ∀ r, R ≤ r → (Rd wt).duties (vC dir i c) r = ∅ := fun r hr => by
  rw [duties_tc, kind_rcv]
  exact if_neg (by omega)
theorem duties_bar_done : ∀ r, 1 ≤ r → (Rd wt).duties (bC c) r = ∅ := fun r hr => by
  rw [duties_tc, kind_bar]
  exact if_neg (by omega)
theorem duties_crd_done : ∀ r, 1 ≤ r → (Rd wt).duties (cC dir c) r = ∅ := fun r hr => by
  rw [duties_tc, kind_crd]
  exact if_neg (by omega)

theorem amount_bar (r d : ℕ) : (Rd wt).amount (bC c) r d = 1 := by
  show amt (kind (.reg semB)) = 1; rw [kind_bar]; rfl
theorem amount_crd (r d : ℕ) : (Rd wt).amount (cC dir c) r d = 1 := by
  show amt (kind (.reg (semC dir))) = 1; rw [kind_crd]; rfl
theorem amount_snd (i : Fin 2) (r d : ℕ) : (Rd wt).amount (sC dir i c) r d = N := by
  show amt (kind (.dma (semS dir i))) = N; rw [kind_snd]; rfl
theorem amount_rcv (i : Fin 2) (r d : ℕ) : (Rd wt).amount (vC dir i c) r d = N := by
  show amt (kind (.dma (semV dir i))) = N; rw [kind_rcv]; rfl

theorem expect_bar : (Rd wt).expect (bC c) 0 = 2 := by
  unfold Schedule.expect Schedule.amountOf
  rw [duties_bar, Finset.sum_congr rfl fun d _ => amount_bar wt c 0 d]; rfl
theorem expect_snd {h : ℕ} (hh : h < len dir) : (Rd wt).expect (sC dir (par h) c) (h / 2) = N := by
  unfold Schedule.expect Schedule.amountOf
  rw [duties_snd wt c dir hh, Finset.sum_singleton, amount_snd]
theorem expect_rcv {h : ℕ} (hh : h < len dir) : (Rd wt).expect (vC dir (par (h + 1)) c) (h / 2) = N := by
  unfold Schedule.expect Schedule.amountOf
  rw [duties_rcv wt c dir hh, Finset.sum_singleton, amount_rcv]
theorem expect_crd : (Rd wt).expect (cC dir c) 0 = len dir := by
  unfold Schedule.expect Schedule.amountOf
  rw [duties_crd, Finset.sum_congr rfl fun d _ => amount_crd wt c dir 0 d, Finset.sum_const, Finset.card_range, smul_eq_mul, Nat.mul_one]

theorem payload_bar : (Rd wt).payload (bC c) 0 (dutyOf dir) = facts dir c 1 := by
  show pay wt c (kind (.reg semB)) 0 (dutyOf dir) = _
  rw [kind_bar]; cases dir <;> rfl
theorem payload_crd (d : ℕ) : (Rd wt).payload (cC dir c) 0 d = facts dir c (min (d + 2) (len dir)) := by
  show pay wt c (kind (.reg (semC dir))) 0 d = _
  rw [kind_crd]; rfl
theorem payload_snd (h d : ℕ) : (Rd wt).payload (sC dir (par h) c) (h / 2) d = slotP dir (par h) c fullShare.right (wt (org c dir h)) := by
  show pay wt c (kind (.dma (semS dir (par h)))) (h / 2) d = _
  rw [kind_snd]
  show slotP dir (par h) c fullShare.right (wt (org c dir (2 * (h / 2) + h % 2))) = _
  rw [show 2 * (h / 2) + h % 2 = h by omega]
theorem payload_rcv (h d : ℕ) : (Rd wt).payload (vC dir (par (h + 1)) c) (h / 2) d = slotP dir (par (h + 1)) c fullShare (wt (org c dir (h + 1))) := by
  show pay wt c (kind (.dma (semV dir (par (h + 1))))) (h / 2) d = _
  rw [kind_rcv]
  show slotP dir (par (h + 1)) c fullShare (wt (org c dir (2 * (h / 2) + 2 - (h + 1) % 2))) = _
  rw [show 2 * (h / 2) + 2 - (h + 1) % 2 = h + 1 by omega]

end Sched

/-! ## What is owed, and the levels -/

/-- The credits device `c`'s transfers from `h` on will bring the next device. -/
def owS (c : Dev nD) (dir : Bool) (h : ℕ) : CellTallies nD τ sig ℕ :=
  ∑ k ∈ Finset.Ico h (len dir), tallyAt (vC dir (par (k + 1)) (nxt dir c)) k N
/-- The credit signals from step `h` on. -/
def owC (c : Dev nD) (dir : Bool) (h : ℕ) : CellTallies nD τ sig ℕ :=
  ∑ k ∈ Finset.Ico h (len dir), tallyAt (cC dir (nxt (!dir) c)) k 1
/-- All of a device's dues but the barrier's. -/
def ow (c : Dev nD) (a b d e : ℕ) : CellTallies nD τ sig ℕ := owS c true a + owS c false b + (owC c true d + owC c false e)
/-- A barrier signal. -/
def owB (c : Dev nD) (dir : Bool) : CellTallies nD τ sig ℕ := tallyAt (bC (nxt (!dir) c)) 0 1
/-- All of a device's dues at the start. -/
def O₀ (c : Dev nD) : CellTallies nD τ sig ℕ := ow c 0 0 0 0 + owB c false + owB c true

theorem owS_succ (c : Dev nD) (dir : Bool) {h : ℕ} (hh : h < len dir) :
    owS c dir h = owS c dir (h + 1) + tallyAt (vC dir (par (h + 1)) (nxt dir c)) h N := by
  unfold owS; rw [Finset.sum_eq_sum_Ico_succ_bot hh, add_comm]
theorem owC_succ (c : Dev nD) (dir : Bool) {h : ℕ} (hh : h < len dir) :
    owC c dir h = owC c dir (h + 1) + tallyAt (cC dir (nxt (!dir) c)) h 1 := by
  unfold owC; rw [Finset.sum_eq_sum_Ico_succ_bot hh, add_comm]
theorem owS_len (c : Dev nD) (dir : Bool) {h : ℕ} (hh : len dir ≤ h) : owS c dir h = 0 := by
  unfold owS; rw [Finset.Ico_eq_empty (by omega), Finset.sum_empty]
theorem owC_len (c : Dev nD) (dir : Bool) {h : ℕ} (hh : len dir ≤ h) : owC c dir h = 0 := by
  unfold owC; rw [Finset.Ico_eq_empty (by omega), Finset.sum_empty]

def L (g : GSem nD τ sig) : Finset ℕ := if g.1.2 = .tc then Finset.range 16 else ∅
def lv (g : GSem nD τ sig) (u : ℕ) : ℕ :=
  match kind g.2 with
  | .bar => 1
  | .rcv _ _ => u + 2
  | .crd _ => u + 2
  | _ => 0

theorem L_of_ne (g : GSem nD τ sig) (h : g.1.2 ≠ .tc) : L g = ∅ := if_neg h
theorem mem_L (c : Dev nD) (s : SemLoc sig) {u : ℕ} (h : u < 16) : u ∈ L ((c : Thread nD τ), s) := by
  unfold L; rw [if_pos rfl]; exact Finset.mem_range.mpr h

theorem lv_snd (c : Dev nD) (dir : Bool) (i : Fin 2) (u : ℕ) : lv (sC dir i c) u = 0 := by
  unfold lv; show (match kind (.dma (semS dir i)) with | .bar => 1 | .rcv _ _ => u + 2 | .crd _ => u + 2 | _ => 0) = 0
  rw [kind_snd]
theorem lv_rcv (c : Dev nD) (dir : Bool) (i : Fin 2) (u : ℕ) : lv (vC dir i c) u = u + 2 := by
  unfold lv; show (match kind (.dma (semV dir i)) with | .bar => 1 | .rcv _ _ => u + 2 | .crd _ => u + 2 | _ => 0) = u + 2
  rw [kind_rcv]
theorem lv_crd (c : Dev nD) (dir : Bool) (u : ℕ) : lv (cC dir c) u = u + 2 := by
  unfold lv; show (match kind (.reg (semC dir)) with | .bar => 1 | .rcv _ _ => u + 2 | .crd _ => u + 2 | _ => 0) = u + 2
  rw [kind_crd]
theorem lv_bar (c : Dev nD) (u : ℕ) : lv (bC c) u = 1 := by
  unfold lv; show (match kind (.reg semB) with | .bar => 1 | .rcv _ _ => u + 2 | .crd _ => u + 2 | _ => 0) = 1
  rw [kind_bar]

/-- Every cell something is owed to has its index among the levels, at least as high as said. -/
def Hi (k : ℕ) (O : CellTallies nD τ sig ℕ) : Prop := ∀ g u, 0 < O g u → u ∈ L g ∧ k ≤ lv g u

theorem Hi.add {k : ℕ} {O O' : CellTallies nD τ sig ℕ} (h : Hi k O) (h' : Hi k O') : Hi k (O + O') := fun g u hg => by
  rw [Pi.add_apply, Finsupp.add_apply] at hg
  rcases Nat.eq_zero_or_pos (O g u) with h0 | h0
  · exact h' g u (by omega)
  · exact h g u h0
theorem Hi.zero (k : ℕ) : Hi k 0 := fun g u hg => absurd hg (Nat.lt_irrefl 0)
theorem Hi.sum {k : ℕ} {s : Finset ℕ} {f : ℕ → CellTallies nD τ sig ℕ} (h : ∀ i ∈ s, Hi k (f i)) : Hi k (∑ i ∈ s, f i) :=
  Finset.sum_induction f (Hi k) (fun _ _ => Hi.add) (Hi.zero k) h
theorem Hi.tally {k : ℕ} {c : Dev nD} {s : SemLoc sig} {u n : ℕ} (hu : u < 16) (hk : k ≤ lv ((c : Thread nD τ), s) u) :
    Hi k (tallyAt ((c : Thread nD τ), s) u n) := fun g u' hg => by
  rw [tallyAt_apply] at hg
  split at hg
  · rename_i h; obtain ⟨rfl, rfl⟩ := h; exact ⟨mem_L c s hu, hk⟩
  · exact absurd hg (Nat.lt_irrefl 0)
theorem Hi.mono {k k' : ℕ} {O : CellTallies nD τ sig ℕ} (h : Hi k O) (hk : k' ≤ k) : Hi k' O :=
  fun g u hg => ⟨(h g u hg).1, hk.trans (h g u hg).2⟩

theorem len_le (dir : Bool) : len dir ≤ 16 := by cases dir <;> decide

theorem hi_owS (c : Dev nD) (dir : Bool) (h : ℕ) : Hi (h + 2) (owS c dir h) := Hi.sum fun k hk => by
  rw [Finset.mem_Ico] at hk
  have := len_le dir
  exact Hi.tally (by omega) (by rw [lv_rcv]; omega)
theorem hi_owC (c : Dev nD) (dir : Bool) (h : ℕ) : Hi (h + 2) (owC c dir h) := Hi.sum fun k hk => by
  rw [Finset.mem_Ico] at hk
  have := len_le dir
  exact Hi.tally (by omega) (by rw [lv_crd]; omega)
theorem hi_ow (c : Dev nD) {k a b d e : ℕ} (ha : k ≤ a) (hb : k ≤ b) (hd : k ≤ d) (he : k ≤ e) : Hi (k + 2) (ow c a b d e) :=
  (((hi_owS c true a).mono (by omega)).add ((hi_owS c false b).mono (by omega))).add
    (((hi_owC c true d).mono (by omega)).add ((hi_owC c false e).mono (by omega)))
theorem hi_O₀ (c : Dev nD) : Hi 1 (O₀ c) :=
  (((hi_ow c (le_refl 0) (le_refl 0) (le_refl 0) (le_refl 0)).mono (by omega)).add
    (Hi.tally (by omega) (by rw [lv_bar]))).add (Hi.tally (by omega) (by rw [lv_bar]))

/-- A wait below everything owed is allowed. -/
theorem mayWait (c : Dev nD) (s : SemLoc sig) (u : ℕ) (hu : u < 16) {O : CellTallies nD τ sig ℕ} (hO : Hi (lv ((c : Thread nD τ), s) u + 1) O) :
    (levAts L lv : sProp 𝕄) ⊢ MayWait (c : Thread nD τ) s u O :=
  MayOwe.of_cut (L := L) (lev := lv) (lv ((c : Thread nD τ), s) u)
    (fun p hp => by rw [Finset.mem_singleton.mp hp]; exact mem_L c s hu)
    (fun g u hg => (hO g u hg).1)
    (fun p hp => by rw [Finset.mem_singleton.mp hp])
    (fun g u hg => (hO g u hg).2)

end Cert.Ring

end
-- ==== Proof.Slots.lean ====
/-
The slots of a communication buffer: the two halves of the buffer, what a load or a store of a slot does, and the rules
of the program's memory operations on them.
-/
module

public import proofs.«01_k».proof.Proof.Sched
public import Idealize.ShloMosaic.Lib.Pipeline.Value

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

abbrev 𝒱₀ : Variants := Variants.none

/-- Running a program on device `c`'s core. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## A slot and its halves -/

/-- A slot held whole is its two half shares. -/
theorem slot_halves (dir : Bool) (i : Fin 2) (c : Dev nD) (X : Vec F S4x256x512 .f32) :
    slotP dir i c fullShare X ⊢ iprop(slotP dir i c fullShare.left X ∗ slotP dir i c fullShare.right X) := by
  unfold slotP owns
  iintro ⟨%f, %hf, H⟩
  ihave H2 := (pointsTo_share (PosShare.mem_left_op_right fullShare)).1 $$ H
  icases H2 with ⟨Hl, Hr⟩
  isplitl [Hl]
  · iexists f; isplitr; · (ipureintro; exact hf)
    iexact Hl
  · iexists f; isplitr; · (ipureintro; exact hf)
    iexact Hr

/-- Contents that a slot reads alike agree on it. -/
theorem slot_inj (dir : Bool) (i : Fin 2) {f g : (slotM dir i).view.ty.Contents (Elt F)}
    (h : (slotM dir i).view.read (Elt F) f = (slotM dir i).view.read (Elt F) g) : ∀ x ∈ (slotM dir i).view.set, f x = g x := by
  intro x hx
  obtain ⟨y, -, rfl⟩ := Finset.mem_map.mp hx
  have := congrFun h y
  rw [View.read_apply, View.read_apply] at this
  exact (cast_inj _).mp this

/-- and back. -/
theorem slot_join (dir : Bool) (i : Fin 2) (c : Dev nD) (X : Vec F S4x256x512 .f32) :
    iprop(slotP dir i c fullShare.left X ∗ slotP dir i c fullShare.right X) ⊢ slotP dir i c fullShare X := by
  unfold slotP owns
  iintro ⟨⟨%f, %hf, Hl⟩, ⟨%g, %hg, Hr⟩⟩
  have e := slot_inj (F := F) dir i (hf.trans hg.symm)
  ihave Hr' := (Entails.of_eq (pointsTo_congr (fun x hx => (e x hx).symm))) $$ Hr
  iexists f; isplitr; · (ipureintro; exact hf)
  iapply (pointsTo_share (PosShare.mem_left_op_right fullShare)).2
  isplitl [Hl] <;> iassumption

/-- A slot whose contents do not matter. -/
theorem slot_free (dir : Bool) (i : Fin 2) (c : Dev nD) (X : Vec F S4x256x512 .f32) :
    slotP dir i c fullShare X ⊢ freeP (F := F) (c, dir, i) := by
  unfold slotP owns freeP Release.slot
  iintro ⟨%f, -, H⟩
  iexists f; iexact H

theorem free_twice (k : Key) : iprop(freeP (F := F) k ∗ freeP k) ⊢ (False : sProp 𝕄) := by
  unfold freeP
  exact Release.slot_slot_false (by
    obtain ⟨c, dir, i⟩ := k
    exact Finset.card_pos.mp (by rw [View.card_set]; decide))

/-! ## The buffer and its two slots -/

/-- A buffer's whole contents. -/
abbrev bufP (dir : Bool) (c : Dev nD) (f : Buf (Elt F) ((buf dir).view.loc (c : Thread nD τ))) : sProp 𝕄 :=
  ((buf dir).view.loc (c : Thread nD τ)) ↦{fullShare} f

/-- A slot's elements are its rectangle's. -/
theorem slot_set (dir : Bool) (i : Fin 2) : (slotM dir i).view.set = (buf dir).view.setOn (slotR i).set := by
  unfold slotM
  exact (View.set_reshape _ _).trans (View.set_slice _ _)

theorem slot_cover : (slotR 0).set ∪ (slotR 1).set = Finset.univ := by
  ext x
  simp only [Finset.mem_union, Finset.mem_univ, iff_true, Rect.mem_set_unit]
  have h0 : (x 0).val < 2 := (x 0).isLt
  have h1 : (x 1).val < 4 := (x 1).isLt
  have h2 : (x 2).val < 256 := (x 2).isLt
  have h3 : (x 3).val < 512 := (x 3).isLt
  rcases Nat.lt_or_ge (x 0).val 1 with h | h
  · left; intro a; fin_cases a
    · exact ⟨Nat.zero_le _, h⟩
    · exact ⟨Nat.zero_le _, by show (x 1).val < 0 + 4; omega⟩
    · exact ⟨Nat.zero_le _, by show (x 2).val < 0 + 256; omega⟩
    · exact ⟨Nat.zero_le _, by show (x 3).val < 0 + 512; omega⟩
  · right; intro a; fin_cases a
    · exact ⟨h, by show (x 0).val < 1 + 1; omega⟩
    · exact ⟨Nat.zero_le _, by show (x 1).val < 0 + 4; omega⟩
    · exact ⟨Nat.zero_le _, by show (x 2).val < 0 + 256; omega⟩
    · exact ⟨Nat.zero_le _, by show (x 3).val < 0 + 512; omega⟩

theorem slot_apart : Disjoint (slotR 0).set (slotR 1).set := by
  refine Finset.disjoint_left.mpr fun x h0 h1 => ?_
  have h0 := (Rect.mem_set_unit.mp h0 0).2
  have h1 := (Rect.mem_set_unit.mp h1 0).1
  have h0 : (x 0).val < 0 + 1 := h0
  have h1 : 1 ≤ (x 0).val := h1
  omega

/-- The two slots cover the buffer. -/
theorem slots_cover (dir : Bool) : ((slotM dir 0).view.set ∪ (slotM dir 1).view.set : Finset (buf dir).view.ty.Idx) = (buf dir).view.set := by
  rw [slot_set, slot_set]
  show (slotR 0).set.map (buf dir).view.emb ∪ (slotR 1).set.map (buf dir).view.emb = _
  rw [← Finset.map_union, slot_cover]; rfl

theorem slots_apart (dir : Bool) : Disjoint ((slotM dir 0).view.set : Finset (buf dir).view.ty.Idx) (slotM dir 1).view.set := by
  rw [slot_set, slot_set]
  exact (Finset.disjoint_map _).mpr slot_apart

theorem buf_set (dir : Bool) : (buf dir).view.set = Finset.univ := by cases dir <;> exact View.set_whole _

/-- A device's buffer is its two slots. -/
theorem buf_split (dir : Bool) (c : Dev nD) (f : Buf (Elt F) ((buf dir).view.loc (c : Thread nD τ))) :
    bufP dir c f ⊢ iprop(freeP (F := F) (c, dir, 0) ∗ freeP (F := F) (c, dir, 1)) := by
  unfold freeP Release.slot bufP
  rw [← buf_set, ← slots_cover]
  iintro H
  ihave H2 := (pointsTo_union (slots_apart dir)).1 $$ H
  icases H2 with ⟨H0, H1⟩
  isplitl [H0]
  · iexists f; iexact H0
  · iexists f; iexact H1

/-- and the slots are the buffer. -/
theorem buf_unite (dir : Bool) (c : Dev nD) :
    iprop(freeP (F := F) (c, dir, 0) ∗ freeP (F := F) (c, dir, 1)) ⊢ iprop(∃ f, bufP dir c f) := by
  unfold freeP Release.slot bufP
  rw [← buf_set, ← slots_cover]
  iintro ⟨⟨%f, H0⟩, %g, H1⟩
  iexists _
  iapply (pointsTo_join (slots_apart dir))
  isplitl [H0] <;> iassumption

/-! ## Loads and stores -/

/-- A load of a slot held at any share. -/
theorem wp_loadSlot (dir : Bool) (i : Fin 2) (c : Dev nD) (q : PosShare TreeShare) (X : Vec F S4x256x512 .f32) {α : Type} {Q : α → sProp 𝕄}
    {k : Vec F S1x4x256x512 .f32 → Prog (TpuEff nD τ sig (Elt F) Λ₀ .tc) α} :
    slotP dir i c q X ⊢ iprop((∀ w : Vec F S1x4x256x512 .f32, (⌜shapeCast S4x256x512 w shapeCasts_S1x4x256x512_S4x256x512 = X⌝ ∗ slotP dir i c q X) -∗ run c (k w) Q)
      -∗ run c (loadSlot dir i >>= k) Q) := by
  unfold slotP owns
  iintro ⟨%f, %hf, H⟩ Hk
  unfold loadSlot
  simp only [Prog.lift, Prog.bind_op, Prog.bind_ret]
  iapply (wp_load 𝒱₀ (c : Thread nD τ) none Set.univ (m := buf dir) (S := (slotM dir i).view.set) (subset_of_eq (slot_set dir i).symm)) $$ H
  iintro H
  iapply Hk
  isplitr; · (ipureintro; exact hf)
  iexists f; isplitr; · (ipureintro; exact hf)
  iexact H

/-- Filling slot 0 with the device's own weights. -/
theorem wp_fill (dir : Bool) (c : Dev nD) (W : Vec F S4x256x512 .f32) {α : Type} {Q : α → sProp 𝕄}
    {k : PUnit → Prog (TpuEff nD τ sig (Elt F) Λ₀ .tc) α} :
    iprop((((c : Thread nD τ).loc cc0_stg3_0) ↦{fullShare} W) ∗ freeP (F := F) (c, dir, 0))
      ⊢ iprop((((((c : Thread nD τ).loc cc0_stg3_0) ↦{fullShare} W) ∗ slotP dir 0 c fullShare W) -∗ run c (k ⟨⟩) Q)
      -∗ run c (fill dir >>= k) Q) := by
  unfold freeP Release.slot
  iintro ⟨HW, %f, H⟩ Hk
  unfold fill loadW loadSlot
  simp only [Prog.lift, Prog.bind_op, Prog.bind_ret]
  iapply (wp_load 𝒱₀ (c : Thread nD τ) none Set.univ (m := ewM) (Finset.subset_univ _)) $$ HW
  iintro HW
  iapply (wp_load 𝒱₀ (c : Thread nD τ) none Set.univ (m := buf dir) (S := (slotM dir 0).view.set) (subset_of_eq (slot_set dir 0).symm)) $$ H
  iintro H
  iapply (wp_store 𝒱₀ (c : Thread nD τ) none Set.univ (m := buf dir) (r := slotR 0) (Mk := Finset.univ) (S := (slotM dir 0).view.set)
    (subset_of_eq ((View.set_slice _ _).trans (slot_set dir 0).symm))) $$ H
  iintro H
  iapply Hk
  isplitl [HW]; · iexact HW
  unfold slotP owns
  iexists _
  isplitr
  rotate_left
  · iexact H
  ipureintro
  have hw : (ewM : Memref sig .tc .vmem S4x256x512 .f32).view.readAt (Elt F) (Rect.unit (s := S4x256x512) ![0, 0, 0] S4x256x512.size inb_S4x256x512_S4x256x512_0_0_0).toLoadRect W = W :=
    Memref.readAt_unit_zero (Elt F) cc0_stg3_0 (funext fun a => by fin_cases a <;> rfl) _ _
  rw [hw]
  have key : shapeCast S4x256x512 (shapeCast S1x4x256x512 (shapeCast S4x256x512 W shapeCasts_S4x256x512_S4x256x512) shapeCasts_S4x256x512_S1x4x256x512) shapeCasts_S1x4x256x512_S4x256x512 = W := by
    rw [shapeCast_shapeCast, shapeCast_self]
  funext j
  exact (congrFun (View.read_write_univ (v := ((buf dir).access (slotR 0))) f _) (Shape.reshapeEquiv _ j)).trans (congrFun key j)

/-- A load of the result's staging buffer. -/
theorem wp_loadO (c : Dev nD) (f : Vec F S1024x512 .f32) {α : Type} {Q : α → sProp 𝕄}
    {k : Vec F S1024x512 .f32 → Prog (TpuEff nD τ sig (Elt F) Λ₀ .tc) α} :
    (((c : Thread nD τ).loc cc0_stg5_0) ↦{fullShare} f) ⊢ iprop(((((c : Thread nD τ).loc cc0_stg5_0) ↦{fullShare} f) -∗ run c (k f) Q)
      -∗ run c (loadO >>= k) Q) := by
  iintro H Hk
  unfold loadO
  simp only [Prog.lift, Prog.bind_op, Prog.bind_ret]
  have hr : (oM : Memref sig .tc .vmem S1024x512 .f32).view.readAt (Elt F) oR.toLoadRect f = f :=
    Memref.readAt_unit_zero (Elt F) cc0_stg5_0 (funext fun a => by fin_cases a <;> rfl) _ _
  iapply (wp_load 𝒱₀ (c : Thread nD τ) none Set.univ (m := oM) (Finset.subset_univ _)) $$ H
  rw [hr]
  iintro H
  iapply Hk; iexact H

/-- A store to it. -/
theorem wp_storeO (c : Dev nD) (f v : Vec F S1024x512 .f32) {α : Type} {Q : α → sProp 𝕄}
    {k : PUnit → Prog (TpuEff nD τ sig (Elt F) Λ₀ .tc) α} :
    (((c : Thread nD τ).loc cc0_stg5_0) ↦{fullShare} f) ⊢ iprop(((((c : Thread nD τ).loc cc0_stg5_0) ↦{fullShare} v) -∗ run c (k ⟨⟩) Q)
      -∗ run c (storeO v >>= k) Q) := by
  iintro H Hk
  unfold storeO
  simp only [Prog.lift, Prog.bind_op, Prog.bind_ret]
  have hw : ((oM : Memref sig .tc .vmem S1024x512 .f32).access oR : View sig .tc _ _ _).write (Elt F) f v Finset.univ = v :=
    Memref.write_access_unit_zero_univ (Elt F) cc0_stg5_0 (funext fun a => by fin_cases a <;> rfl) _ f v
  iapply (wp_store 𝒱₀ (c : Thread nD τ) none Set.univ (m := oM) (r := oR) (Mk := Finset.univ) (Finset.subset_univ _)) $$ H
  rw [hw]
  iintro H
  iapply Hk; iexact H

/-- One round's addition to the result. -/
theorem wp_addRound (c : Dev nD) (x : FVec F S1024x256 .f32) (idx : IVec S1024 32) (p : FVec F S1024 .f32) (dir : Bool) (h : ℕ)
    (q : PosShare TreeShare) (X : Vec F S4x256x512 .f32) (f : Vec F S1024x512 .f32) {α : Type} {Q : α → sProp 𝕄}
    {k : PUnit → Prog (TpuEff nD τ sig (Elt F) Λ₀ .tc) α} :
    iprop((((c : Thread nD τ).loc cc0_stg5_0) ↦{fullShare} f) ∗ slotP dir (par (h + 1)) c q X)
      ⊢ iprop((((((c : Thread nD τ).loc cc0_stg5_0) ↦{fullShare} (addf f (contribV x idx p (srcV c dir h) X) : Vec F S1024x512 .f32)) ∗ slotP dir (par (h + 1)) c q X) -∗ run c (k ⟨⟩) Q)
      -∗ run c (addRound c x idx p dir h >>= k) Q) := by
  iintro ⟨HO, HS⟩ Hk
  unfold addRound
  simp only [Prog.bind_assoc]
  iapply (wp_loadO c f) $$ HO; iintro HO
  iapply (wp_loadSlot dir (par (h + 1)) c q X) $$ HS; iintro %w ⟨%hw, HS⟩
  iapply (wp_loadO c f) $$ HO; iintro HO
  rw [hw, shapeCast_self]
  iapply (wp_storeO c f _) $$ HO; iintro HO
  iapply Hk
  isplitl [HO]
  · iexact HO
  · iexact HS

end Cert.Ring

end
-- ==== Proof.Steps.lean ====
/-
The rules of the ring's operations, each uniform in the direction: what a wait for a sent slot, a credit, a wait for a
slot, a wait for a credit and a transfer each need and give back.
-/
module

public import proofs.«01_k».proof.Proof.Slots
public import Idealize.SL.BI.BigOpNat

@[expose] public section

noncomputable section

namespace Cert.Ring

open Cert.KernelIdeal Cert.KernelIdeal.Gen
open Idealize Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (wt : Dev nD → Vec F S4x256x512 .f32)

/-! ## What everyone knows -/

omit [FloatOps F] in
/-- One of a family. -/
theorem big_at {I : Type} [DecidableEq I] {s : Finset I} (Φ : I → sProp 𝕄) {i : I} (h : i ∈ s) : bigSep s Φ ⊢ Φ i := bigSep_elim h

/-- The own semaphores of a device, in order, the barrier's last. -/
abbrev osem : Fin 11 → SemLoc sig := fun
  | 0 => .reg (semC true) | 1 => .reg (semC false)
  | 2 => .dma (semS true 0) | 3 => .dma (semS true 1) | 4 => .dma (semV true 0) | 5 => .dma (semV true 1)
  | 6 => .dma (semS false 0) | 7 => .dma (semS false 1) | 8 => .dma (semV false 0) | 9 => .dma (semV false 1)
  | 10 => .reg semB

abbrev kcell (ck : Dev nD × Fin 11) : GSem nD τ sig := ((ck.1 : Thread nD τ), osem ck.2)

def ixC : Bool → Fin 11 | true => 0 | false => 1
def ixS : Bool → Fin 2 → Fin 11 | true, i => ⟨2 + i.val, by omega⟩ | false, i => ⟨6 + i.val, by omega⟩
def ixV : Bool → Fin 2 → Fin 11 | true, i => ⟨4 + i.val, by omega⟩ | false, i => ⟨8 + i.val, by omega⟩

theorem osem_ixC (dir : Bool) : osem (ixC dir) = .reg (semC dir) := by cases dir <;> rfl
theorem osem_ixS (dir : Bool) (i : Fin 2) : osem (ixS dir i) = .dma (semS dir i) := by revert i; cases dir <;> decide
theorem osem_ixV (dir : Bool) (i : Fin 2) : osem (ixV dir i) = .dma (semV dir i) := by revert i; cases dir <;> decide

/-- The invariants of every cell and of every slot, every cell's first round, and the levels. -/
def Env (K : Dev nD × Fin 11 → ℕ) (KI : Key → ℕ) : sProp 𝕄 :=
  iprop((bigSep Finset.univ fun ck => cellInv ER (Rd wt) (K ck) (kcell ck))
    ∗ (bigSep Finset.univ fun k => slotInv ES (KI k) k (freeP (F := F) k))
    ∗ (bigSep Finset.univ fun ck => reached ER (kcell ck) 0)
    ∗ levAts L lv)

instance Env_persistent (K KI) : BI.Persistent (Env (F := F) wt K KI) := by unfold Env; infer_instance

section Env
variable (K : Dev nD × Fin 11 → ℕ) (KI : Key → ℕ) (c : Dev nD) (dir : Bool)

theorem env_cell (ck : Dev nD × Fin 11) : Env wt K KI ⊢ cellInv ER (Rd wt) (K ck) (kcell ck) := by
  unfold Env; iintro ⟨H, -⟩
  iapply (big_at (fun ck => cellInv ER (Rd wt) (K ck) (kcell ck)) (Finset.mem_univ ck)); iexact H
theorem env_reached (ck : Dev nD × Fin 11) : Env wt K KI ⊢ reached ER (kcell ck) 0 := by
  unfold Env; iintro ⟨-, -, H, -⟩
  iapply (big_at (fun ck => (reached ER (kcell ck) 0 : sProp 𝕄)) (Finset.mem_univ ck)); iexact H
theorem env_slot (k : Key) : Env wt K KI ⊢ slotInv ES (KI k) k (freeP (F := F) k) := by
  unfold Env; iintro ⟨-, H, -⟩
  iapply (big_at (fun k => slotInv ES (KI k) k (freeP (F := F) k)) (Finset.mem_univ k)); iexact H
theorem env_lev : Env wt K KI ⊢ levAts L lv := by
  unfold Env; iintro ⟨-, -, -, H⟩; iexact H

theorem env_bar : Env wt K KI ⊢ cellInv ER (Rd wt) (K (c, 10)) (bC c) := env_cell wt K KI (c, 10)
theorem env_bar0 : Env wt K KI ⊢ reached ER (bC c) 0 := env_reached wt K KI (c, 10)
theorem env_snd (i : Fin 2) : Env wt K KI ⊢ cellInv ER (Rd wt) (K (c, ixS dir i)) (sC dir i c) :=
  (env_cell wt K KI (c, ixS dir i)).trans (Entails.of_eq (by unfold kcell; rw [osem_ixS]))
theorem env_rcv (i : Fin 2) : Env wt K KI ⊢ cellInv ER (Rd wt) (K (c, ixV dir i)) (vC dir i c) :=
  (env_cell wt K KI (c, ixV dir i)).trans (Entails.of_eq (by unfold kcell; rw [osem_ixV]))
theorem env_crd : Env wt K KI ⊢ cellInv ER (Rd wt) (K (c, ixC dir)) (cC dir c) :=
  (env_cell wt K KI (c, ixC dir)).trans (Entails.of_eq (by unfold kcell; rw [osem_ixC]))
theorem env_snd0 (i : Fin 2) : Env wt K KI ⊢ reached ER (sC dir i c) 0 :=
  (env_reached wt K KI (c, ixS dir i)).trans (Entails.of_eq (by unfold kcell; rw [osem_ixS]))
theorem env_rcv0 (i : Fin 2) : Env wt K KI ⊢ reached ER (vC dir i c) 0 :=
  (env_reached wt K KI (c, ixV dir i)).trans (Entails.of_eq (by unfold kcell; rw [osem_ixV]))
theorem env_crd0 : Env wt K KI ⊢ reached ER (cC dir c) 0 :=
  (env_reached wt K KI (c, ixC dir)).trans (Entails.of_eq (by unfold kcell; rw [osem_ixC]))
set_option maxRecDepth 20000 in
theorem env_mayWait (s : SemLoc sig) (u : ℕ) (hu : u < 16) {O : CellTallies nD τ sig ℕ} (hO : Hi (lv ((c : Thread nD τ), s) u + 1) O) :
    Env wt K KI ⊢ MayWait (c : Thread nD τ) s u O := by
  have h1 := env_lev (F := F) wt K KI
  have h2 := mayWait (F := F) c s u hu hO
  exact h1.trans h2

end Env

/-! ## The state of a direction -/

/-- The dues of a device, whatever it has waited for. -/
def ows (c : Dev nD) (O : CellTallies nD τ sig ℕ) : sProp 𝕄 := iprop(∃ W, owes (c : Thread nD τ) O W)

/-- The send cell of transfer `h`, and its receive cell. -/
abbrev sCell (dir : Bool) (c : Dev nD) (h : ℕ) : GSem nD τ sig := sC dir (par h) c
abbrev vCell (dir : Bool) (c : Dev nD) (h : ℕ) : GSem nD τ sig := vC dir (par (h + 1)) c

theorem par_two (h : ℕ) : par (h + 2) = par h := Fin.ext (by show (h + 2) % 2 = h % 2; omega)

/-- The places of two alternating cells before transfer `h`. -/
def pos2 (cell : ℕ → GSem nD τ sig) (h : ℕ) : sProp 𝕄 :=
  iprop(atPos ER (cell h) (h / 2) ∅ 0 ∗ reached ER (cell h) (h / 2)
    ∗ atPos ER (cell (h + 1)) ((h + 1) / 2) ∅ 0 ∗ reached ER (cell (h + 1)) ((h + 1) / 2))

/-- The reader's counts before step `h`. -/
def rds (dir : Bool) (c : Dev nD) (h : ℕ) : sProp 𝕄 :=
  iprop(readerAt ES (c, dir, par h) ((h + 1) / 2) ∗ readerAt ES (c, dir, par (h + 1)) (h / 2 + 1))

/-- The tokens of transfer `h`. -/
def sTok (dir : Bool) (c : Dev nD) (h : ℕ) : sProp 𝕄 :=
  iprop(dutyTok ER (sC dir (par h) c) (h / 2) 0 ∗ dutyTok ER (vC dir (par (h + 1)) (nxt dir c)) (h / 2) 0
    ∗ writeTok ES (nxt dir c, dir, par (h + 1)) (h / 2 + 1))
def sToks (dir : Bool) (c : Dev nD) (h : ℕ) : sProp 𝕄 := bigSep (Finset.Ico h (len dir)) fun k => sTok (F := F) dir c k
def cToks (dir : Bool) (c : Dev nD) (h : ℕ) : sProp 𝕄 :=
  bigSep (Finset.Ico h (len dir)) fun k => dutyTok ER (cC dir (nxt (!dir) c)) 0 k
def vCreds (dir : Bool) (c : Dev nD) (h : ℕ) : sProp 𝕄 :=
  bigSep (Finset.Ico h (len dir)) fun k => cred (tallyAt (vC dir (par (k + 1)) c) k N)
def cCreds (dir : Bool) (c : Dev nD) (h : ℕ) : sProp 𝕄 :=
  bigSep (Finset.Ico h (len dir)) fun k => cred (tallyAt (cC dir c) k 1)
/-- The credits taken so far and the facts they brought. -/
def got (dir : Bool) (c : Dev nD) (h : ℕ) : sProp 𝕄 :=
  iprop(∃ T, atPos ER (cC dir c) 0 T h ∗ bigSep T fun d => facts (F := F) dir c (min (d + 2) (len dir)))

omit [FloatOps F] in
theorem facts_mem (dir : Bool) (c : Dev nD) {k w : ℕ} (h : w < k) : facts (F := F) dir c k ⊢ fact dir c w :=
  bigSep_elim (Finset.mem_range.mpr h)
omit [FloatOps F] in
theorem facts_mono (dir : Bool) (c : Dev nD) {k k' : ℕ} (h : k' ≤ k) : facts (F := F) dir c k ⊢ facts dir c k' :=
  bigSep_subset (Finset.range_subset_range.mpr h)
omit [FloatOps F] in
theorem facts_succ (dir : Bool) (c : Dev nD) (k : ℕ) : iprop(facts (F := F) dir c k ∗ fact dir c k) ⊢ facts dir c (k + 1) := by
  unfold facts
  rw [Finset.range_add_one, bigSep_insert Finset.notMem_range_self]
  exact sep_comm.1

/-- The state of a direction on device `c` before step `h`: transfer `h` under way, half of its source kept. -/
def st (dir : Bool) (c : Dev nD) (h : ℕ) : sProp 𝕄 :=
  iprop(pos2 (sCell dir c) h ∗ pos2 (vCell dir c) h ∗ rds dir c h ∗ got dir c h
    ∗ cred (tallyAt (sCell dir c h) 0 N) ∗ slotP dir (par h) c fullShare.left (wt (org c dir h))
    ∗ sToks dir c (h + 1) ∗ cToks dir c h ∗ vCreds dir c h ∗ cCreds dir c h ∗ facts dir (nxt (!dir) c) (h + 1))

/-! ## The operations -/

/-- What a completed transfer hands its sender, -/
theorem rest_snd (c : Dev nD) (dir : Bool) {h : ℕ} (hh : h < len dir) :
    (bigSep ((Rd wt).duties (sC dir (par h) c) (h / 2) \ ∅) fun d => (Rd wt).payload (sC dir (par h) c) (h / 2) d)
      = slotP dir (par h) c fullShare.right (wt (org c dir h)) := by
  rw [duties_snd wt c dir hh, Finset.sdiff_empty, bigSep_singleton, payload_snd]
/-- and its receiver. -/
theorem rest_rcv (c : Dev nD) (dir : Bool) {h : ℕ} (hh : h < len dir) :
    (bigSep ((Rd wt).duties (vC dir (par (h + 1)) c) (h / 2) \ ∅) fun d => (Rd wt).payload (vC dir (par (h + 1)) c) (h / 2) d)
      = slotP dir (par (h + 1)) c fullShare (wt (org c dir (h + 1))) := by
  rw [duties_rcv wt c dir hh, Finset.sdiff_empty, bigSep_singleton, payload_rcv]

variable (K : Dev nD × Fin 11 → ℕ) (KI : Key → ℕ)

section Ops
variable (c : Dev nD) (dir : Bool) (h : ℕ)

/-- The wait for transfer `h` to have left. -/
theorem wp_waitSend (hh : h < len dir) {O : CellTallies nD τ sig ℕ} {α : Type} {Q : α → sProp 𝕄} {k : PUnit → Prog (TpuEff nD τ sig (Elt F) Λ₀ .tc) α} (hO : Hi 1 O) :
    iprop(Env wt K KI ∗ pos2 (sCell dir c) h ∗ cred (tallyAt (sCell dir c h) 0 N) ∗ ows c O)
      ⊢ iprop(((pos2 (sCell dir c) (h + 1) ∗ slotP dir (par h) c fullShare.right (wt (org c dir h)) ∗ ows c O) -∗ run c (k ⟨⟩) Q)
        -∗ run c (waitSend dir h >>= k) Q) := by
  unfold pos2 ows
  iintro ⟨#HE, ⟨Ha, -, Hb, #Hrb⟩, Hc, %W, HO⟩ Hk
  unfold waitSend
  simp only [Prog.lift, Prog.bind_op, Prog.bind_ret]
  have hk : 0 + (slotM dir (par h)).view.dmaCredit = (Rd wt).expect (sC dir (par h) c) (h / 2) := by
    rw [Nat.zero_add, credit_eq, expect_snd wt c dir hh]
  iapply (Rounds.wp_wait_rest_token 𝒱₀ ER (Rd wt) (c : Thread nD τ) none (κ := K (c, ixS dir (par h)))
      (wpE_waitDma2_eq 𝒱₀ (c : Thread nD τ) none Set.univ) (Set.mem_univ _) 0 (O := O) (W := W) (R := h / 2) (m := 0) (T := ∅)
      hk) $$ [Hc HO Ha]
  · isplitr; · (iapply (env_snd wt K KI c dir (par h)); iexact HE)
    isplitl [Hc]; · iexact Hc
    isplitl [HO]; · iexact HO
    isplitr
    · iapply (env_mayWait wt K KI c (.dma (semS dir (par h))) 0 (by decide) (by rw [lv_snd]; exact hO)); iexact HE
    iexact Ha
  iintro ⟨HO, Ha, #Hra, Hp⟩
  ihave Hp := (Entails.of_eq (rest_snd wt c dir hh)) $$ Hp
  iapply Hk
  isplitl [Ha Hb]
  · isplitl [Hb]; · iexact Hb
    isplitr; · iexact Hrb
    simp only [sCell, par_two, show (h + 1 + 1) / 2 = h / 2 + 1 by omega]
    isplitl [Ha]; · iexact Ha
    iexact Hra
  isplitl [Hp]; · iexact Hp
  iexists _; iexact HO

/-- The wait for transfer `h` to have arrived. -/
theorem wp_waitRecv (hh : h < len dir) {O : CellTallies nD τ sig ℕ} {α : Type} {Q : α → sProp 𝕄} {k : PUnit → Prog (TpuEff nD τ sig (Elt F) Λ₀ .tc) α} (hO : Hi (h + 3) O) :
    iprop(Env wt K KI ∗ pos2 (vCell dir c) h ∗ vCreds dir c h ∗ ows c O)
      ⊢ iprop(((pos2 (vCell dir c) (h + 1) ∗ vCreds dir c (h + 1) ∗ slotP dir (par (h + 1)) c fullShare (wt (org c dir (h + 1))) ∗ ows c O) -∗ run c (k ⟨⟩) Q)
        -∗ run c (waitRecv dir h >>= k) Q) := by
  have hl := len_le dir
  unfold pos2 ows vCreds
  rw [bigSep_Ico_succ_bot hh]
  iintro ⟨#HE, ⟨Ha, -, Hb, #Hrb⟩, ⟨Hc, Hcs⟩, %W, HO⟩ Hk
  unfold waitRecv
  simp only [Prog.lift, Prog.bind_op, Prog.bind_ret]
  iapply (Rounds.wp_wait_rest_token 𝒱₀ ER (Rd wt) (c : Thread nD τ) none (κ := K (c, ixV dir (par (h + 1))))
      (wpE_waitDma2_eq 𝒱₀ (c : Thread nD τ) none Set.univ) (Set.mem_univ _) h (O := O) (W := W) (R := h / 2) (m := 0) (T := ∅)
      (by rw [Nat.zero_add, credit_eq, expect_rcv wt c dir hh])) $$ [Hc HO Ha]
  · isplitr; · (iapply (env_rcv wt K KI c dir (par (h + 1))); iexact HE)
    isplitl [Hc]; · iexact Hc
    isplitl [HO]; · iexact HO
    isplitr
    · iapply (env_mayWait wt K KI c (.dma (semV dir (par (h + 1)))) h (by omega) (by rw [lv_rcv]; exact hO)); iexact HE
    iexact Ha
  iintro ⟨HO, Ha, #Hra, Hp⟩
  ihave Hp := (Entails.of_eq (rest_rcv wt c dir hh)) $$ Hp
  iapply Hk
  isplitl [Ha Hb]
  · isplitl [Hb]; · iexact Hb
    isplitr; · iexact Hrb
    simp only [vCell, show h + 1 + 1 + 1 = (h + 1) + 2 from rfl, par_two, show (h + 1 + 1) / 2 = h / 2 + 1 by omega]
    isplitl [Ha]; · iexact Ha
    iexact Hra
  isplitl [Hcs]; · iexact Hcs
  isplitl [Hp]; · iexact Hp
  iexists _; iexact HO

/-- The reader releases the slot it has sent on: the writer's next write to it may start. -/
theorem release (X : Vec F S4x256x512 .f32) :
    iprop(Env wt K KI ∗ rds dir c h ∗ pos2 (vCell dir c) h ∗ slotP dir (par h) c fullShare X)
      ⊢ (|={Set.univ}=> (rds dir c (h + 1) ∗ pos2 (vCell dir c) h ∗ fact dir (nxt (!dir) c) (h + 1)) : sProp 𝕄) := by
  unfold rds pos2 fact
  iintro ⟨#HE, ⟨Hr, Hr'⟩, ⟨Ha, #Hra, Hb, #Hrb⟩, HS⟩
  ihave Hf := (slot_free dir (par h) c X) $$ HS
  imod (slot_release (E := ES) (ι := KI (c, dir, par h)) (k := (c, dir, par h)) (Set.mem_univ _) (free_twice (F := F) (c, dir, par h)) ((h + 1) / 2)) $$ [Hr Hf] with ⟨Hr, #Hrel⟩
  · isplitr; · (iapply (env_slot wt K KI (c, dir, par h)); iexact HE)
    isplitl [Hr] <;> iassumption
  imodintro
  rw [nxt_nxt_not]
  simp only [vCell, show h + 1 + 1 = h + 2 from rfl, par_two, show (h + 2) / 2 = h / 2 + 1 by omega]
  isplitl [Hr Hr']
  · isplitl [Hr'] <;> iassumption
  isplitl [Ha Hb]
  · isplitl [Ha]; · iexact Ha
    isplitr; · iexact Hra
    isplitl [Hb]; · iexact Hb
    iexact Hrb
  isplitr; · iexact Hrel
  iexact Hrb

/-- The credit of step `h`. -/
theorem wp_credit {n : Dev nD} (hn : n = nxt (!dir) c) (hh : h < len dir) {O : CellTallies nD τ sig ℕ} {α : Type} {Q : α → sProp 𝕄} {k : PUnit → Prog (TpuEff nD τ sig (Elt F) Λ₀ .tc) α} :
    iprop(Env wt K KI ∗ cToks dir c h ∗ facts dir (nxt (!dir) c) (min (h + 2) (len dir)) ∗ ows c (O + tallyAt (cC dir (nxt (!dir) c)) h 1))
      ⊢ iprop(((cToks dir c (h + 1) ∗ ows c O) -∗ run c (k ⟨⟩) Q) -∗ run c (credit dir n >>= k) Q) := by
  subst hn
  unfold cToks ows
  rw [bigSep_Ico_succ_bot hh]
  iintro ⟨#HE, ⟨Ht, Hts⟩, #Hf, %W, HO⟩ Hk
  unfold credit
  simp only [semSignalWord, Prog.lift, Prog.bind_op, Prog.bind_ret]
  iapply (Rounds.wp_signal 𝒱₀ ER (Rd wt) (c : Thread nD τ) none (dst := (nxt (!dir) c : Thread nD τ)) (κ := K (nxt (!dir) c, ixC dir))
      (d := h) (by rw [duties_crd]; exact Finset.mem_range.mpr hh) ((amount_crd wt (nxt (!dir) c) dir 0 h).trans (by decide)) h O rfl)
    $$ [HO Ht]
  · isplitr; · (iapply (env_crd wt K KI (nxt (!dir) c) dir); iexact HE)
    isplitl [HO]; · iexact HO
    isplitl [Ht]; · iexact Ht
    isplitr
    · rw [payload_crd]; iexact Hf
    iapply (env_crd0 wt K KI (nxt (!dir) c) dir); iexact HE
  iintro HO
  iapply Hk
  isplitl [Hts]; · iexact Hts
  iexists W; iexact HO

/-- The wait for credit `h`: the next write may start. -/
theorem wp_waitCredit (hh : h + 1 < len dir) {O : CellTallies nD τ sig ℕ} {α : Type} {Q : α → sProp 𝕄} {k : PUnit → Prog (TpuEff nD τ sig (Elt F) Λ₀ .tc) α} (hO : Hi (h + 3) O) :
    iprop(Env wt K KI ∗ got dir c h ∗ cCreds dir c h ∗ ows c O)
      ⊢ iprop(((got dir c (h + 1) ∗ fact dir c (h + 1) ∗ cCreds dir c (h + 1) ∗ ows c O) -∗ run c (k ⟨⟩) Q)
        -∗ run c (waitCredit dir >>= k) Q) := by
  have hl := len_le dir
  unfold got ows cCreds
  rw [bigSep_Ico_succ_bot (by omega)]
  iintro ⟨#HE, ⟨%T, Ha, #HT⟩, ⟨Hc, Hcs⟩, %W, HO⟩ Hk
  unfold waitCredit
  simp only [semWaitWord, Prog.lift, Prog.bind_op, Prog.bind_ret]
  iapply (Rounds.wp_wait 𝒱₀ ER (Rd wt) (c : Thread nD τ) none (κ := K (c, ixC dir))
      (wpE_semWait_eq 𝒱₀ (c : Thread nD τ) none Set.univ) (Set.mem_univ _) (cr := Finsupp.single h 1) (O := O) (W := W)
      {(.reg (semC dir), h)} (R := 0) (m := h) (T := T)
      (by rw [Util.total_single]; decide)
      (fun p hp => by
        obtain ⟨u, hu, rfl⟩ := Finset.mem_image.mp hp
        rw [Finset.mem_singleton.mp (Finsupp.support_single_subset hu)]; exact Finset.mem_singleton_self _)) $$ [Hc HO Ha]
  · isplitr; · (iapply (env_crd wt K KI c dir); iexact HE)
    isplitl [Hc]; · iexact Hc
    isplitl [HO]; · iexact HO
    isplitr
    · iapply (env_mayWait wt K KI c (.reg (semC dir)) h (by omega) (by rw [lv_crd]; exact hO)); iexact HE
    iexact Ha
  iintro %S ⟨%hS, HO, Ha, Hp⟩
  obtain ⟨hTS, hSd, hcard⟩ := hS
  rw [duties_crd] at hSd hcard
  rw [expect_crd] at hcard
  have hone : (1#32).toNat = 1 := by decide
  rw [hone] at hcard
  have hlarge : ∃ d ∈ S, h ≤ d := by
    by_contra hne
    have hsub : S ⊆ Finset.range h := fun d hd => Finset.mem_range.mpr (by
      by_contra hge; exact hne ⟨d, hd, by omega⟩)
    have h1 := Finset.card_le_card hsub
    have h2 := Finset.card_sdiff_add_card_eq_card hSd
    rw [Finset.card_range] at h1 h2
    omega
  obtain ⟨d, hd, hdh⟩ := hlarge
  have hpay : (bigSep (S \ T) fun d => (Rd wt).payload (cC dir c) 0 d) ⊢ bigSep (S \ T) fun d => facts (F := F) dir c (min (d + 2) (len dir)) :=
    bigSep_mono fun d _ => Entails.of_eq (payload_crd wt c dir d)
  ihave #Hp' := hpay $$ Hp
  have hall : iprop((bigSep (S \ T) fun d => facts (F := F) dir c (min (d + 2) (len dir))) ∗ bigSep T fun d => facts (F := F) dir c (min (d + 2) (len dir)))
      ⊢ bigSep S fun d => facts (F := F) dir c (min (d + 2) (len dir)) :=
    sep_comm.1.trans (Entails.of_eq (bigSep_sdiff_split hTS).symm)
  ihave #HS := hall $$ []
  · isplitr <;> iassumption
  iapply Hk
  isplitl [Ha]
  · iexists S
    isplitl [Ha]
    · rw [show h + (1#32).toNat = h + 1 from rfl]; iexact Ha
    iexact HS
  isplitr
  · iapply ((big_at (fun d => facts (F := F) dir c (min (d + 2) (len dir))) hd).trans (facts_mem (F := F) dir c (show h + 1 < min (d + 2) (len dir) by omega)))
    iexact HS
  isplitl [Hcs]; · iexact Hcs
  iexists _; iexact HO

/-- Transfer `h`: the source slot goes out at one half, the other stays. -/
theorem wp_send {n : Dev nD} (hn : n = nxt dir c) (hh : h < len dir) {O : CellTallies nD τ sig ℕ} {α : Type} {Q : α → sProp 𝕄} {k : PUnit → Prog (TpuEff nD τ sig (Elt F) Λ₀ .tc) α} :
    iprop(Env wt K KI ∗ sToks dir c h ∗ fact dir c h ∗ slotP dir (par h) c fullShare (wt (org c dir h)) ∗ reached ER (sCell dir c h) (h / 2)
        ∗ ows c (O + tallyAt (vC dir (par (h + 1)) (nxt dir c)) h N))
      ⊢ iprop(((sToks dir c (h + 1) ∗ cred (tallyAt (sCell dir c h) 0 N) ∗ slotP dir (par h) c fullShare.left (wt (org c dir h)) ∗ ows c O) -∗ run c (k ⟨⟩) Q)
        -∗ run c (send dir h n >>= k) Q) := by
  subst hn
  unfold sToks ows
  rw [bigSep_Ico_succ_bot hh]
  unfold sTok fact
  iintro ⟨#HE, ⟨⟨Ht1, Ht2, Hw⟩, Hts⟩, ⟨#Hrel, #Hrv⟩, HS, #Hrs, %W, HO⟩ Hk
  imod (slot_take (E := ES) (ι := KI (nxt dir c, dir, par (h + 1))) (S := freeP (F := F) (nxt dir c, dir, par (h + 1))) (Set.mem_univ _) (h / 2 + 1)) $$ [Hw] with Hf
  · isplitr; · (iapply (env_slot wt K KI (nxt dir c, dir, par (h + 1))); iexact HE)
    isplitr; · iexact Hrel
    iexact Hw
  ihave HS2 := (slot_halves dir (par h) c (wt (org c dir h))) $$ HS
  icases HS2 with ⟨HL, HR⟩
  unfold send
  simp only [Prog.lift, Prog.bind_op, Prog.bind_ret]
  unfold freeP Release.slot
  icases Hf with ⟨%fd, Hf⟩
  ihave HR' := (Entails.of_eq (by unfold slotP owns; rfl)) $$ HR
  icases HR' with ⟨%fs, %hfs, HR⟩
  iapply (Rounds.wp_send_pointsTo 𝒱₀ ER (Rd wt) (c : Thread nD τ) none (c' := (nxt dir c : Thread nD τ)) (src := slotM dir (par h)) (dst := slotM dir (par (h + 1)))
    (sS := .dma (semS dir (par h))) (sem := .dma (semV dir (par (h + 1)))) (κ₁ := K (c, ixS dir (par h))) (κ₂ := K (nxt dir c, ixV dir (par (h + 1))))
    (r₁ := h / 2) (r₂ := h / 2) (d₁ := 0) (d₂ := 0) (fd := fd) (fs := fs)
    (by rw [duties_snd wt c dir hh]; exact Finset.mem_singleton_self _) (by rw [duties_rcv wt (nxt dir c) dir hh]; exact Finset.mem_singleton_self _)
    h 0 N (credit_eq dir (par (h + 1))) (amount_snd wt c dir (par h) _ 0) (amount_rcv wt (nxt dir c) dir (par (h + 1)) _ 0) O rfl (W := W)
    (by rw [payload_snd]; unfold slotP owns; iintro H; iexists fs; isplitr; · (ipureintro; exact hfs)
        iexact H)
    (by rw [payload_rcv, org_nxt]; unfold slotP owns; iintro H; iexists _; isplitr
        rotate_left
        · iexact H
        · ipureintro; rw [View.read_write_univ]; exact hfs)) $$ [HR Hf HO Ht1 Ht2]
  · isplitr; · (iapply (env_snd wt K KI c dir (par h)); iexact HE)
    isplitr; · (iapply (env_rcv wt K KI (nxt dir c) dir (par (h + 1))); iexact HE)
    isplitl [HR]; · iexact HR
    isplitl [Hf]; · iexact Hf
    isplitl [HO]; · iexact HO
    isplitl [Ht1]; · iexact Ht1
    isplitr; · iexact Hrs
    isplitl [Ht2]; · iexact Ht2
    iexact Hrv
  iintro ⟨Hc, HO⟩
  iapply Hk
  isplitl [Hts]; · iexact Hts
  isplitl [Hc]; · iexact Hc
  isplitl [HL]; · iexact HL
  iexists W; iexact HO

end Ops

end Cert.Ring

end
-- ==== Proof.Main.lean ====
/-
The whole program on one device, from the state a launch gives it to its result: the barrier, the fifteen steps that
run in both directions, the last one, and the closing of the semaphores.
-/
module

public import proofs.«01_k».proof.Proof.Steps

@[expose] public section

set_option maxRecDepth 8000

noncomputable section

namespace Cert.Ring

open Cert.KernelIdeal Cert.KernelIdeal.Gen
open Idealize Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (wt : Dev nD → Vec F S4x256x512 .f32)

/-! ## What is owed, taken apart -/

theorem toward_eq (c : Dev nD) (dir : Bool) : toward c dir = nxt dir c := by cases dir; exact lft_eq c; exact rgt_eq c
theorem behind_eq (c : Dev nD) (dir : Bool) : behind c dir = nxt (!dir) c := by cases dir; exact rgt_eq c; exact lft_eq c

theorem ow_sendR (c : Dev nD) {a : ℕ} (b d e : ℕ) (h : a < 16) : ow c a b d e = ow c (a + 1) b d e + tallyAt (vC true (par (a + 1)) (nxt true c)) a N := by
  unfold ow; rw [owS_succ c true h]; ac_rfl
theorem ow_sendL (c : Dev nD) (a : ℕ) {b : ℕ} (d e : ℕ) (h : b < 15) : ow c a b d e = ow c a (b + 1) d e + tallyAt (vC false (par (b + 1)) (nxt false c)) b N := by
  unfold ow; rw [owS_succ c false h]; ac_rfl
theorem ow_credR (c : Dev nD) (a b : ℕ) {d : ℕ} (e : ℕ) (h : d < 16) : ow c a b d e = ow c a b (d + 1) e + tallyAt (cC true (nxt (!true) c)) d 1 := by
  unfold ow; rw [owC_succ c true h]; ac_rfl
theorem ow_credL (c : Dev nD) (a b d : ℕ) {e : ℕ} (h : e < 15) : ow c a b d e = ow c a b d (e + 1) + tallyAt (cC false (nxt (!false) c)) e 1 := by
  unfold ow; rw [owC_succ c false h]; ac_rfl
theorem ow_end (c : Dev nD) : ow c 16 15 16 15 = 0 := by
  unfold ow
  rw [owS_len c true (le_refl 16), owS_len c false (le_refl 15), owC_len c true (le_refl 16), owC_len c false (le_refl 15)]; simp only [add_zero]

/-! ## A direction through a step -/

/-- Transfer `h` has left and its source is whole again. -/
def st1 (dir : Bool) (c : Dev nD) (h : ℕ) : sProp 𝕄 :=
  iprop(pos2 (sCell dir c) (h + 1) ∗ pos2 (vCell dir c) h ∗ rds dir c h ∗ got dir c h
    ∗ slotP dir (par h) c fullShare (wt (org c dir h))
    ∗ sToks dir c (h + 1) ∗ cToks dir c h ∗ vCreds dir c h ∗ cCreds dir c h ∗ facts dir (nxt (!dir) c) (h + 1))

/-- The source has been released. -/
def st2 (dir : Bool) (c : Dev nD) (h : ℕ) : sProp 𝕄 :=
  iprop(pos2 (sCell dir c) (h + 1) ∗ pos2 (vCell dir c) h ∗ rds dir c (h + 1) ∗ got dir c h
    ∗ sToks dir c (h + 1) ∗ cToks dir c (h + 1) ∗ vCreds dir c h ∗ cCreds dir c h ∗ facts dir (nxt (!dir) c) (h + 2))

/-- The last credit has been given and the source kept. -/
def st2L (dir : Bool) (c : Dev nD) (h : ℕ) : sProp 𝕄 :=
  iprop(pos2 (sCell dir c) (h + 1) ∗ pos2 (vCell dir c) h ∗ got dir c h ∗ slotP dir (par h) c fullShare (wt (org c dir h))
    ∗ vCreds dir c h ∗ cCreds dir c h)

/-- The last slot has arrived. -/
def stL (dir : Bool) (c : Dev nD) (h : ℕ) : sProp 𝕄 :=
  iprop(pos2 (sCell dir c) (h + 1) ∗ pos2 (vCell dir c) (h + 1) ∗ got dir c h ∗ slotP dir (par h) c fullShare (wt (org c dir h)) ∗ cCreds dir c h)

variable (K : Dev nD × Fin 11 → ℕ) (KI : Key → ℕ)

section Dir
variable (c : Dev nD) (dir : Bool) (h : ℕ)

/-- The first part of a step: the wait for what was sent. -/
theorem wp_left (hh : h < len dir) {O : CellTallies nD τ sig ℕ} (hO : Hi 1 O) {α : Type} {Q : α → sProp 𝕄} {k : PUnit → Prog (TpuEff nD τ sig (Elt F) Λ₀ .tc) α} :
    iprop(Env wt K KI ∗ st wt dir c h ∗ ows c O)
      ⊢ iprop(((st1 wt dir c h ∗ ows c O) -∗ run c (k ⟨⟩) Q) -∗ run c (waitSend dir h >>= k) Q) := by
  unfold st st1
  iintro ⟨#HE, ⟨HpS, HpV, Hr, Hg, Hc, HL, HtS, HtC, HvC, HcC, Hf⟩, HO⟩ Hk
  iapply (wp_waitSend wt K KI c dir h hh hO) $$ [HpS Hc HO]
  · isplitr; · iexact HE
    isplitl [HpS]; · iexact HpS
    isplitl [Hc] <;> iassumption
  iintro ⟨HpS, HR, HO⟩
  ihave HS := (slot_join dir (par h) c (wt (org c dir h))) $$ [HL HR]
  · isplitl [HL] <;> iassumption
  iapply Hk
  isplitr [HO]
  · isplitl [HpS]; · iexact HpS
    isplitl [HpV]; · iexact HpV
    isplitl [Hr]; · iexact Hr
    isplitl [Hg]; · iexact Hg
    isplitl [HS]; · iexact HS
    isplitl [HtS]; · iexact HtS
    isplitl [HtC]; · iexact HtC
    isplitl [HvC]; · iexact HvC
    isplitl [HcC] <;> iassumption
  iexact HO

/-- The second: the credit, the source released. -/
theorem wp_give (hh : h + 1 < len dir) {O : CellTallies nD τ sig ℕ} {α : Type} {Q : α → sProp 𝕄} {k : PUnit → Prog (TpuEff nD τ sig (Elt F) Λ₀ .tc) α} :
    iprop(Env wt K KI ∗ st1 wt dir c h ∗ ows c (O + tallyAt (cC dir (nxt (!dir) c)) h 1))
      ⊢ iprop(((st2 dir c h ∗ ows c O) -∗ run c (k ⟨⟩) Q) -∗ run c (credit dir (behind c dir) >>= k) Q) := by
  unfold st1 st2
  iintro ⟨#HE, ⟨HpS, HpV, Hr, Hg, HS, HtS, HtC, HvC, HcC, #Hf⟩, HO⟩ Hk
  imod (release wt K KI c dir h (wt (org c dir h))) $$ [Hr HpV HS] with ⟨Hr, HpV, #Hf1⟩
  · isplitr; · iexact HE
    isplitl [Hr]; · iexact Hr
    isplitl [HpV] <;> iassumption
  ihave #Hf2 := (facts_succ dir (nxt (!dir) c) (h + 1)) $$ []
  · isplitr <;> iassumption
  iapply (wp_credit wt K KI c dir h (behind_eq c dir) (by omega)) $$ [HtC HO]
  · isplitr; · iexact HE
    isplitl [HtC]; · iexact HtC
    isplitr
    · rw [min_eq_left (show h + 2 ≤ len dir by omega)]; iexact Hf2
    iexact HO
  iintro ⟨HtC, HO⟩
  iapply Hk
  isplitr [HO]
  · isplitl [HpS]; · iexact HpS
    isplitl [HpV]; · iexact HpV
    isplitl [Hr]; · iexact Hr
    isplitl [Hg]; · iexact Hg
    isplitl [HtS]; · iexact HtS
    isplitl [HtC]; · iexact HtC
    isplitl [HvC]; · iexact HvC
    isplitl [HcC]; · iexact HcC
    iexact Hf2
  iexact HO

/-- The last credit: nothing more will be written. -/
theorem wp_giveLast (hh : h + 1 = len dir) {O : CellTallies nD τ sig ℕ} {α : Type} {Q : α → sProp 𝕄} {k : PUnit → Prog (TpuEff nD τ sig (Elt F) Λ₀ .tc) α} :
    iprop(Env wt K KI ∗ st1 wt dir c h ∗ ows c (O + tallyAt (cC dir (nxt (!dir) c)) h 1))
      ⊢ iprop(((st2L wt dir c h ∗ ows c O) -∗ run c (k ⟨⟩) Q) -∗ run c (credit dir (behind c dir) >>= k) Q) := by
  unfold st1 st2L
  iintro ⟨#HE, ⟨HpS, HpV, -, Hg, HS, -, HtC, HvC, HcC, #Hf⟩, HO⟩ Hk
  iapply (wp_credit wt K KI c dir h (behind_eq c dir) (by omega)) $$ [HtC HO]
  · isplitr; · iexact HE
    isplitl [HtC]; · iexact HtC
    isplitr
    · rw [show min (h + 2) (len dir) = h + 1 by omega]; iexact Hf
    iexact HO
  iintro ⟨-, HO⟩
  iapply Hk
  isplitr [HO]
  · isplitl [HpS]; · iexact HpS
    isplitl [HpV]; · iexact HpV
    isplitl [Hg]; · iexact Hg
    isplitl [HS]; · iexact HS
    isplitl [HvC] <;> iassumption
  iexact HO

/-- The third: a slot arrives, a credit arrives, the slot is sent on. -/
theorem wp_forward (hh : h + 1 < len dir) {O O' : CellTallies nD τ sig ℕ} (hO : O = O' + tallyAt (vC dir (par (h + 1 + 1)) (nxt dir c)) (h + 1) N)
    (hH : Hi (h + 3) O) {α : Type} {Q : α → sProp 𝕄} {k : PUnit → Prog (TpuEff nD τ sig (Elt F) Λ₀ .tc) α} :
    iprop(Env wt K KI ∗ st2 dir c h ∗ ows c O)
      ⊢ iprop(((st wt dir c (h + 1) ∗ ows c O') -∗ run c (k ⟨⟩) Q)
        -∗ run c (waitRecv dir h >>= fun _ => waitCredit dir >>= fun _ => send dir (h + 1) (toward c dir) >>= k) Q) := by
  unfold st2 st
  iintro ⟨#HE, ⟨HpS, HpV, Hr, Hg, HtS, HtC, HvC, HcC, #Hf⟩, HO⟩ Hk
  iapply (wp_waitRecv wt K KI c dir h (by omega) hH) $$ [HpV HvC HO]
  · isplitr; · iexact HE
    isplitl [HpV]; · iexact HpV
    isplitl [HvC] <;> iassumption
  iintro ⟨HpV, HvC, HS, HO⟩
  iapply (wp_waitCredit wt K KI c dir h hh hH) $$ [Hg HcC HO]
  · isplitr; · iexact HE
    isplitl [Hg]; · iexact Hg
    isplitl [HcC] <;> iassumption
  iintro ⟨Hg, #Hf1, HcC, HO⟩
  subst hO
  unfold pos2
  icases HpS with ⟨HpS0, #HpS1, HpS2, #HpS3⟩
  iapply (wp_send wt K KI c dir (h + 1) (toward_eq c dir) hh) $$ [HtS HS HO]
  · isplitr; · iexact HE
    isplitl [HtS]; · iexact HtS
    isplitr; · iexact Hf1
    isplitl [HS]; · iexact HS
    isplitr; · iexact HpS1
    iexact HO
  iintro ⟨HtS, Hc, HL, HO⟩
  iapply Hk
  isplitr [HO]
  · isplitl [HpS0 HpS2]
    · isplitl [HpS0]; · iexact HpS0
      isplitr; · iexact HpS1
      isplitl [HpS2]; · iexact HpS2
      iexact HpS3
    isplitl [HpV]; · iexact HpV
    isplitl [Hr]; · iexact Hr
    isplitl [Hg]; · iexact Hg
    isplitl [Hc]; · iexact Hc
    isplitl [HL]; · iexact HL
    isplitl [HtS]; · iexact HtS
    isplitl [HtC]; · iexact HtC
    isplitl [HvC]; · iexact HvC
    isplitl [HcC]; · iexact HcC
    iexact Hf
  iexact HO

/-- The last slot arrives. -/
theorem wp_recvLast (hh : h + 1 = len dir) {O : CellTallies nD τ sig ℕ} (hH : Hi (h + 3) O) {α : Type} {Q : α → sProp 𝕄} {k : PUnit → Prog (TpuEff nD τ sig (Elt F) Λ₀ .tc) α} :
    iprop(Env wt K KI ∗ st2L wt dir c h ∗ ows c O)
      ⊢ iprop(((stL wt dir c h ∗ slotP dir (par (h + 1)) c fullShare (wt (org c dir (h + 1))) ∗ ows c O) -∗ run c (k ⟨⟩) Q)
        -∗ run c (waitRecv dir h >>= k) Q) := by
  unfold st2L stL
  iintro ⟨#HE, ⟨HpS, HpV, Hg, HS, HvC, HcC⟩, HO⟩ Hk
  iapply (wp_waitRecv wt K KI c dir h (by omega) hH) $$ [HpV HvC HO]
  · isplitr; · iexact HE
    isplitl [HpV]; · iexact HpV
    isplitl [HvC] <;> iassumption
  iintro ⟨HpV, HvC, HS', HO⟩
  iapply Hk
  isplitr [HS' HO]
  · isplitl [HpS]; · iexact HpS
    isplitl [HpV]; · iexact HpV
    isplitl [Hg]; · iexact Hg
    isplitl [HS] <;> iassumption
  isplitl [HS'] <;> iassumption

/-- A round's addition, from the state in which half of the slot is under way. -/
theorem wp_add (x : FVec F S1024x256 .f32) (idx : IVec S1024 32) (p : FVec F S1024 .f32) (f : Vec F S1024x512 .f32)
    {α : Type} {Q : α → sProp 𝕄} {k : PUnit → Prog (TpuEff nD τ sig (Elt F) Λ₀ .tc) α} :
    iprop((((c : Thread nD τ).loc cc0_stg5_0) ↦{fullShare} f) ∗ st wt dir c (h + 1))
      ⊢ iprop((((((c : Thread nD τ).loc cc0_stg5_0) ↦{fullShare} (addf f (contribV x idx p (srcV c dir h) (wt (org c dir (h + 1)))) : Vec F S1024x512 .f32)) ∗ st wt dir c (h + 1)) -∗ run c (k ⟨⟩) Q)
      -∗ run c (addRound c x idx p dir h >>= k) Q) := by
  unfold st
  iintro ⟨HO, HpS, HpV, Hr, Hg, Hc, HL, HtS, HtC, HvC, HcC, Hf⟩ Hk
  iapply (wp_addRound c x idx p dir h fullShare.left (wt (org c dir (h + 1))) f) $$ [HO HL]
  · isplitl [HO] <;> iassumption
  iintro ⟨HO, HL⟩
  iapply Hk
  isplitl [HO]; · iexact HO
  isplitl [HpS]; · iexact HpS
  isplitl [HpV]; · iexact HpV
  isplitl [Hr]; · iexact Hr
  isplitl [Hg]; · iexact Hg
  isplitl [Hc]; · iexact Hc
  isplitl [HL]; · iexact HL
  isplitl [HtS]; · iexact HtS
  isplitl [HtC]; · iexact HtC
  isplitl [HvC]; · iexact HvC
  isplitl [HcC] <;> iassumption

/-- A direction at its end: everything arrived and every credit taken. -/
def stF : sProp 𝕄 :=
  iprop(pos2 (sCell dir c) (len dir) ∗ pos2 (vCell dir c) (len dir) ∗ atPos ER (cC dir c) 1 ∅ 0
    ∗ freeP (F := F) (c, dir, par (len dir)) ∗ freeP (F := F) (c, dir, par (len dir + 1)))

/-- The last wait for a credit. -/
theorem wp_creditLast (hh : h + 1 = len dir) {O : CellTallies nD τ sig ℕ} (hO : Hi (h + 3) O) {α : Type} {Q : α → sProp 𝕄} {k : PUnit → Prog (TpuEff nD τ sig (Elt F) Λ₀ .tc) α} :
    iprop(Env wt K KI ∗ stL wt dir c h ∗ slotP dir (par (h + 1)) c fullShare (wt (org c dir (h + 1))) ∗ ows c O)
      ⊢ iprop(((stF c dir ∗ ows c O) -∗ run c (k ⟨⟩) Q) -∗ run c (waitCredit dir >>= k) Q) := by
  have hl := len_le dir
  unfold stL stF got ows cCreds
  rw [← hh, bigSep_Ico_one]
  iintro ⟨#HE, ⟨HpS, HpV, ⟨%T, Ha, -⟩, HS, Hc⟩, HS', %W, HO⟩ Hk
  unfold waitCredit
  simp only [semWaitWord, Prog.lift, Prog.bind_op, Prog.bind_ret]
  iapply (Rounds.wp_wait_rest_token 𝒱₀ ER (Rd wt) (c : Thread nD τ) none (κ := K (c, ixC dir))
      (wpE_semWait_eq 𝒱₀ (c : Thread nD τ) none Set.univ) (Set.mem_univ _) h (O := O) (W := W) (R := 0) (m := h) (T := T)
      (by rw [expect_crd, ← hh]; rfl)) $$ [Hc HO Ha]
  · isplitr; · (iapply (env_crd wt K KI c dir); iexact HE)
    isplitl [Hc]; · iexact Hc
    isplitl [HO]; · iexact HO
    isplitr
    · iapply (env_mayWait wt K KI c (.reg (semC dir)) h (by omega) (by rw [lv_crd]; exact hO)); iexact HE
    iexact Ha
  iintro ⟨HO, Ha, -, -⟩
  ihave Hf := (slot_free dir (par h) c _) $$ HS
  ihave Hf' := (slot_free dir (par (h + 1)) c _) $$ HS'
  iapply Hk
  isplitr [HO]
  · isplitl [HpS]; · iexact HpS
    isplitl [HpV]; · iexact HpV
    isplitl [Ha]; · iexact Ha
    isplitl [Hf']; · iexact Hf'
    rw [show h + 1 + 1 = h + 2 from rfl, par_two]; iexact Hf
  iexists _; iexact HO

/-- What a direction's semaphores and buffer are left as. -/
def stE : sProp 𝕄 :=
  iprop(semVal (sC dir 0 c) 0 ∗ semVal (sC dir 1 c) 0 ∗ semVal (vC dir 0 c) 0 ∗ semVal (vC dir 1 c) 0 ∗ semVal (cC dir c) 0
    ∗ (∃ f, bufP (F := F) dir c f))

/-- A direction's semaphores close and its buffer is whole. -/
theorem close : iprop(Env wt K KI ∗ stF c dir) ⊢ (|={Set.univ}=> stE c dir : sProp 𝕄) := by
  unfold stF pos2 stE
  iintro ⟨#HE, ⟨H1, -, H2, -⟩, ⟨H3, -, H4, -⟩, H5, H6, H7⟩
  imod (Rounds.cell_close ER (Rd wt) (Set.mem_univ (K (c, ixS dir (par (len dir))))) (fun h => h) (R := len dir / 2)
    (duties_snd_done wt c dir (i := par (len dir)) (by show len dir ≤ 2 * (len dir / 2) + len dir % 2; omega))) $$ [H1] with H1
  · isplitr; · (iapply (env_snd wt K KI c dir (par (len dir))); iexact HE)
    iexact H1
  imod (Rounds.cell_close ER (Rd wt) (Set.mem_univ (K (c, ixS dir (par (len dir + 1))))) (fun h => h) (R := (len dir + 1) / 2)
    (duties_snd_done wt c dir (i := par (len dir + 1)) (by show len dir ≤ 2 * ((len dir + 1) / 2) + (len dir + 1) % 2; omega))) $$ [H2] with H2
  · isplitr; · (iapply (env_snd wt K KI c dir (par (len dir + 1))); iexact HE)
    iexact H2
  imod (Rounds.cell_close ER (Rd wt) (Set.mem_univ (K (c, ixV dir (par (len dir + 1))))) (fun h => h) (R := len dir / 2)
    (duties_rcv_done wt c dir (i := par (len dir + 1)) (by show len dir ≤ 2 * (len dir / 2) + 1 - (len dir + 1) % 2; omega))) $$ [H3] with H3
  · isplitr; · (iapply (env_rcv wt K KI c dir (par (len dir + 1))); iexact HE)
    iexact H3
  imod (Rounds.cell_close ER (Rd wt) (Set.mem_univ (K (c, ixV dir (par (len dir + 1 + 1))))) (fun h => h) (R := (len dir + 1) / 2)
    (duties_rcv_done wt c dir (i := par (len dir + 1 + 1)) (by show len dir ≤ 2 * ((len dir + 1) / 2) + 1 - (len dir + 1 + 1) % 2; omega))) $$ [H4] with H4
  · isplitr; · (iapply (env_rcv wt K KI c dir (par (len dir + 1 + 1))); iexact HE)
    iexact H4
  imod (Rounds.cell_close ER (Rd wt) (Set.mem_univ (K (c, ixC dir))) (fun h => h) (R := 1) (duties_crd_done wt c dir)) $$ [H5] with H5
  · isplitr; · (iapply (env_crd wt K KI c dir); iexact HE)
    iexact H5
  imodintro
  cases dir
  · isplitl [H2]; · iexact H2
    isplitl [H1]; · iexact H1
    isplitl [H3]; · iexact H3
    isplitl [H4]; · iexact H4
    isplitl [H5]; · iexact H5
    iapply (buf_unite false c)
    isplitl [H7]; · iexact H7
    iexact H6
  · isplitl [H1]; · iexact H1
    isplitl [H2]; · iexact H2
    isplitl [H4]; · iexact H4
    isplitl [H3]; · iexact H3
    isplitl [H5]; · iexact H5
    iapply (buf_unite true c)
    isplitl [H6]; · iexact H6
    iexact H7

end Dir

/-! ## The steps -/

section Steps
variable (c : Dev nD) (x : FVec F S1024x256 .f32) (idx : IVec S1024 32) (p : FVec F S1024 .f32)

/-- The result's staging buffer. -/
abbrev outP (f : Vec F S1024x512 .f32) : sProp 𝕄 := ((c : Thread nD τ).loc cc0_stg5_0) ↦{fullShare} f

/-- One round's addition. -/
def roundV (dir : Bool) (h : ℕ) (f : Vec F S1024x512 .f32) : Vec F S1024x512 .f32 :=
  addf f (contribV x idx p (srcV c dir h) (wt (org c dir (h + 1))))

/-- `n` full steps' additions from step `h` on. -/
def stepsV : ℕ → ℕ → Vec F S1024x512 .f32 → Vec F S1024x512 .f32
  | 0, _, f => f
  | n + 1, h, f => stepsV n (h + 1) (roundV wt c x idx p false h (roundV wt c x idx p true h f))

/-- A full step. -/
theorem wp_step (h : ℕ) (hh : h < 14) (f : Vec F S1024x512 .f32) {α : Type} {Q : α → sProp 𝕄} {k : PUnit → Prog (TpuEff nD τ sig (Elt F) Λ₀ .tc) α} :
    iprop(Env wt K KI ∗ st wt true c h ∗ st wt false c h ∗ ows c (ow c (h + 1) (h + 1) h h) ∗ outP c f)
      ⊢ iprop(((st wt true c (h + 1) ∗ st wt false c (h + 1) ∗ ows c (ow c (h + 1 + 1) (h + 1 + 1) (h + 1) (h + 1))
            ∗ outP c (roundV wt c x idx p false h (roundV wt c x idx p true h f))) -∗ run c (k ⟨⟩) Q)
        -∗ run c (step c x idx p h >>= k) Q) := by
  iintro ⟨#HE, HT, HF, HO, Hout⟩ Hk
  unfold step
  simp only [Prog.bind_assoc]
  iapply (wp_left wt K KI c true h (by show h < 16; omega) ((hi_ow c (Nat.zero_le _) (Nat.zero_le _) (Nat.zero_le _) (Nat.zero_le _)).mono (by omega))) $$ [HT HO]
  · isplitr; · iexact HE
    isplitl [HT] <;> iassumption
  iintro ⟨HT, HO⟩
  iapply (wp_left wt K KI c false h (by show h < 15; omega) ((hi_ow c (Nat.zero_le _) (Nat.zero_le _) (Nat.zero_le _) (Nat.zero_le _)).mono (by omega))) $$ [HF HO]
  · isplitr; · iexact HE
    isplitl [HF] <;> iassumption
  iintro ⟨HF, HO⟩
  ihave HO := (Entails.of_eq (congrArg (ows (F := F) c) (ow_credR c (h + 1) (h + 1) h (show h < 16 by omega)))) $$ HO
  iapply (wp_give wt K KI c true h (by show h + 1 < 16; omega)) $$ [HT HO]
  · isplitr; · iexact HE
    isplitl [HT] <;> iassumption
  iintro ⟨HT, HO⟩
  ihave HO := (Entails.of_eq (congrArg (ows (F := F) c) (ow_credL c (h + 1) (h + 1) (h + 1) (show h < 15 by omega)))) $$ HO
  iapply (wp_give wt K KI c false h (by show h + 1 < 15; omega)) $$ [HF HO]
  · isplitr; · iexact HE
    isplitl [HF] <;> iassumption
  iintro ⟨HF, HO⟩
  iapply (wp_forward wt K KI c true h (by show h + 1 < 16; omega) (ow_sendR c (h + 1) (h + 1) (h + 1) (show h + 1 < 16 by omega))
    (hi_ow c (le_refl _) (le_refl _) (le_refl _) (le_refl _))) $$ [HT HO]
  · isplitr; · iexact HE
    isplitl [HT] <;> iassumption
  iintro ⟨HT, HO⟩
  iapply (wp_forward wt K KI c false h (by show h + 1 < 15; omega) (ow_sendL c (h + 1 + 1) (h + 1) (h + 1) (show h + 1 < 15 by omega))
    (hi_ow c (k := h + 1) (by omega) (le_refl _) (le_refl _) (le_refl _))) $$ [HF HO]
  · isplitr; · iexact HE
    isplitl [HF] <;> iassumption
  iintro ⟨HF, HO⟩
  iapply (wp_add wt c true h x idx p f) $$ [HT Hout]
  · isplitl [Hout] <;> iassumption
  iintro ⟨Hout, HT⟩
  iapply (wp_add wt c false h x idx p _) $$ [HF Hout]
  · isplitl [Hout] <;> iassumption
  iintro ⟨Hout, HF⟩
  iapply Hk
  isplitl [HT]; · iexact HT
  isplitl [HF]; · iexact HF
  isplitl [HO]; · iexact HO
  iexact Hout

/-- All the full steps. -/
theorem wp_steps (n : ℕ) : ∀ (h : ℕ) (hh : h + n ≤ 14) (f : Vec F S1024x512 .f32) {α : Type} {Q : α → sProp 𝕄} {k : PUnit → Prog (TpuEff nD τ sig (Elt F) Λ₀ .tc) α},
    iprop(Env wt K KI ∗ st wt true c h ∗ st wt false c h ∗ ows c (ow c (h + 1) (h + 1) h h) ∗ outP c f)
      ⊢ iprop(((st wt true c (h + n) ∗ st wt false c (h + n) ∗ ows c (ow c (h + n + 1) (h + n + 1) (h + n) (h + n)) ∗ outP c (stepsV wt c x idx p n h f)) -∗ run c (k ⟨⟩) Q)
        -∗ run c (steps c x idx p n h >>= k) Q) := by
  induction n with
  | zero =>
    intro h hh f α Q k
    iintro ⟨#HE, H⟩ Hk
    unfold steps stepsV
    simp only [Prog.pure_eq_ret, Prog.bind_ret]
    iapply Hk; iexact H
  | succ n ih =>
    intro h hh f α Q k
    iintro H Hk
    icases H with ⟨#HE, HT, HF, HO, Hout⟩
    rw [steps, stepsV]
    simp only [Prog.bind_assoc]
    iapply (wp_step wt K KI c x idx p h (by omega) f) $$ [HT HF HO Hout]
    · isplitr; · iexact HE
      isplitl [HT]; · iexact HT
      isplitl [HF]; · iexact HF
      isplitl [HO] <;> iassumption
    iintro ⟨HT, HF, HO, Hout⟩
    iapply (ih (h + 1) (by omega) _) $$ [HT HF HO Hout]
    · isplitr; · iexact HE
      isplitl [HT]; · iexact HT
      isplitl [HF]; · iexact HF
      isplitl [HO] <;> iassumption
    rw [show h + 1 + n = h + (n + 1) by omega]
    iexact Hk

end Steps

end Cert.Ring

end
-- ==== Proof.Ends.lean ====
/-
The two ends of the program on one device, the barrier with the first transfers and the last two steps, and the whole
program out of them.
-/
module

public import proofs.«01_k».proof.Proof.Main

@[expose] public section

set_option maxRecDepth 8000

noncomputable section

namespace Cert.Ring

open Cert.KernelIdeal Cert.KernelIdeal.Gen
open Idealize Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (wt : Dev nD → Vec F S4x256x512 .f32) (K : Dev nD × Fin 11 → ℕ) (KI : Key → ℕ)
variable (c : Dev nD)

/-! ## The last two steps -/

section Last
variable (x : FVec F S1024x256 .f32) (idx : IVec S1024 32) (p : FVec F S1024 .f32)

/-- The last step in which both directions have a slot to receive. -/
theorem wp_step14 (f : Vec F S1024x512 .f32) {α : Type} {Q : α → sProp 𝕄} {k : PUnit → Prog (TpuEff nD τ sig (Elt F) Λ₀ .tc) α} :
    iprop(Env wt K KI ∗ st wt true c 14 ∗ st wt false c 14 ∗ ows c (ow c 15 15 14 14) ∗ outP c f)
      ⊢ iprop(((st wt true c 15 ∗ (stL wt false c 14 ∗ slotP false (par 15) c fullShare (wt (org c false 15))) ∗ ows c (ow c 16 15 15 15)
            ∗ outP c (roundV wt c x idx p false 14 (roundV wt c x idx p true 14 f))) -∗ run c (k ⟨⟩) Q)
        -∗ run c (step14 c x idx p >>= k) Q) := by
  iintro ⟨#HE, HT, HF, HO, Hout⟩ Hk
  unfold step14
  simp only [Prog.bind_assoc]
  iapply (wp_left wt K KI c true 14 (by decide) ((hi_ow c (k := 0) (Nat.zero_le _) (Nat.zero_le _) (Nat.zero_le _) (Nat.zero_le _)).mono (by omega))) $$ [HT HO]
  · isplitr; · iexact HE
    isplitl [HT] <;> iassumption
  iintro ⟨HT, HO⟩
  iapply (wp_left wt K KI c false 14 (by decide) ((hi_ow c (k := 0) (Nat.zero_le _) (Nat.zero_le _) (Nat.zero_le _) (Nat.zero_le _)).mono (by omega))) $$ [HF HO]
  · isplitr; · iexact HE
    isplitl [HF] <;> iassumption
  iintro ⟨HF, HO⟩
  ihave HO := (Entails.of_eq (congrArg (ows (F := F) c) (ow_credR c 15 15 14 (show 14 < 16 by omega)))) $$ HO
  iapply (wp_give wt K KI c true 14 (by decide)) $$ [HT HO]
  · isplitr; · iexact HE
    isplitl [HT] <;> iassumption
  iintro ⟨HT, HO⟩
  ihave HO := (Entails.of_eq (congrArg (ows (F := F) c) (ow_credL c 15 15 15 (show 14 < 15 by omega)))) $$ HO
  iapply (wp_giveLast wt K KI c false 14 rfl) $$ [HF HO]
  · isplitr; · iexact HE
    isplitl [HF] <;> iassumption
  iintro ⟨HF, HO⟩
  iapply (wp_forward wt K KI c true 14 (by decide) (ow_sendR c 15 15 15 (show 15 < 16 by omega))
    (hi_ow c (k := 15) (le_refl _) (le_refl _) (le_refl _) (le_refl _))) $$ [HT HO]
  · isplitr; · iexact HE
    isplitl [HT] <;> iassumption
  iintro ⟨HT, HO⟩
  iapply (wp_recvLast wt K KI c false 14 rfl (O := ow c 16 15 15 15) (hi_ow c (k := 15) (by omega) (le_refl _) (le_refl _) (le_refl _))) $$ [HF HO]
  · isplitr; · iexact HE
    isplitl [HF] <;> iassumption
  iintro ⟨HF, HS, HO⟩
  iapply (wp_add wt c true 14 x idx p f) $$ [HT Hout]
  · isplitl [Hout] <;> iassumption
  iintro ⟨Hout, HT⟩
  iapply (wp_addRound c x idx p false 14 fullShare (wt (org c false 15)) _) $$ [HS Hout]
  · isplitl [Hout] <;> iassumption
  iintro ⟨Hout, HS⟩
  iapply Hk
  isplitl [HT]; · iexact HT
  isplitl [HF HS]
  · isplitl [HF] <;> iassumption
  isplitl [HO]; · iexact HO
  iexact Hout

/-- The step in which one direction receives its last slot. -/
theorem wp_step15 (f : Vec F S1024x512 .f32) {α : Type} {Q : α → sProp 𝕄} {k : PUnit → Prog (TpuEff nD τ sig (Elt F) Λ₀ .tc) α} :
    iprop(Env wt K KI ∗ st wt true c 15 ∗ ows c (ow c 16 15 15 15) ∗ outP c f)
      ⊢ iprop((((stL wt true c 15 ∗ slotP true (par 16) c fullShare (wt (org c true 16))) ∗ ows c (0 : CellTallies nD τ sig ℕ)
            ∗ outP c (roundV wt c x idx p true 15 f)) -∗ run c (k ⟨⟩) Q)
        -∗ run c (step15 c x idx p >>= k) Q) := by
  iintro ⟨#HE, HT, HO, Hout⟩ Hk
  unfold step15
  simp only [Prog.bind_assoc]
  iapply (wp_left wt K KI c true 15 (by decide) ((hi_ow c (k := 0) (Nat.zero_le _) (Nat.zero_le _) (Nat.zero_le _) (Nat.zero_le _)).mono (by omega))) $$ [HT HO]
  · isplitr; · iexact HE
    isplitl [HT] <;> iassumption
  iintro ⟨HT, HO⟩
  ihave HO := (Entails.of_eq (congrArg (ows (F := F) c) (ow_credR c 16 15 15 (show 15 < 16 by omega)))) $$ HO
  iapply (wp_giveLast wt K KI c true 15 rfl) $$ [HT HO]
  · isplitr; · iexact HE
    isplitl [HT] <;> iassumption
  iintro ⟨HT, HO⟩
  ihave HO := (Entails.of_eq (congrArg (ows (F := F) c) (ow_end c))) $$ HO
  iapply (wp_recvLast wt K KI c true 15 rfl (Hi.zero _)) $$ [HT HO]
  · isplitr; · iexact HE
    isplitl [HT] <;> iassumption
  iintro ⟨HT, HS, HO⟩
  iapply (wp_addRound c x idx p true 15 fullShare (wt (org c true 16)) f) $$ [HS Hout]
  · isplitl [Hout] <;> iassumption
  iintro ⟨Hout, HS⟩
  iapply Hk
  isplitl [HT HS]
  · isplitl [HT] <;> iassumption
  isplitl [HO]; · iexact HO
  iexact Hout

end Last

/-! ## The barrier and the first transfers -/

/-- A direction at the launch. -/
def stI (dir : Bool) : sProp 𝕄 :=
  iprop(pos2 (sCell dir c) 0 ∗ pos2 (vCell dir c) 0 ∗ readerAt ES (c, dir, (0 : Fin 2)) 0 ∗ readerAt ES (c, dir, (1 : Fin 2)) 0 ∗ got dir c 0
    ∗ sToks dir c 0 ∗ cToks dir c 0 ∗ vCreds dir c 0 ∗ cCreds dir c 0 ∗ dutyTok ER (bC (nxt (!dir) c)) 0 (dutyOf dir) ∗ (∃ f, bufP (F := F) dir c f))

/-- A direction that has let its neighbour write into slot 1. -/
def stB (dir : Bool) : sProp 𝕄 :=
  iprop(pos2 (sCell dir c) 0 ∗ pos2 (vCell dir c) 0 ∗ rds dir c 0 ∗ got dir c 0
    ∗ sToks dir c 0 ∗ cToks dir c 0 ∗ vCreds dir c 0 ∗ cCreds dir c 0 ∗ freeP (F := F) (c, dir, (0 : Fin 2)) ∗ fact dir (nxt (!dir) c) 0)

/-- A neighbour is told that slot 1 is free. -/
theorem wp_tell (dir : Bool) {n : Dev nD} (hn : n = nxt (!dir) c) {O : CellTallies nD τ sig ℕ} {α : Type} {Q : α → sProp 𝕄}
    {k : PUnit → Prog (TpuEff nD τ sig (Elt F) Λ₀ .tc) α} :
    iprop(Env wt K KI ∗ stI c dir ∗ ows c (O + owB c dir))
      ⊢ iprop(((stB c dir ∗ ows c O) -∗ run c (k ⟨⟩) Q) -∗ run c (semSignalWord n semB 1#32 >>= k) Q) := by
  subst hn
  unfold stI stB ows
  iintro ⟨#HE, ⟨HpS, HpV, Hr0, Hr1, Hg, HtS, HtC, HvC, HcC, HtB, %f, Hb⟩, %W, HO⟩ Hk
  ihave Hb2 := (buf_split dir c f) $$ Hb
  icases Hb2 with ⟨Hf0, Hf1⟩
  imod (slot_release (E := ES) (ι := KI (c, dir, (1 : Fin 2))) (k := (c, dir, (1 : Fin 2))) (Set.mem_univ _) (free_twice (F := F) (c, dir, (1 : Fin 2))) 0) $$ [Hr1 Hf1] with ⟨Hr1, #Hrel⟩
  · isplitr; · (iapply (env_slot wt K KI (c, dir, (1 : Fin 2))); iexact HE)
    isplitl [Hr1] <;> iassumption
  ihave #Hfact : fact dir (nxt (!dir) c) 0 $$ []
  · unfold fact
    rw [nxt_nxt_not]
    isplitr; · iexact Hrel
    iapply (env_rcv0 wt K KI c dir (1 : Fin 2)); iexact HE
  simp only [semSignalWord, Prog.lift, Prog.bind_op, Prog.bind_ret]
  iapply (Rounds.wp_signal 𝒱₀ ER (Rd wt) (c : Thread nD τ) none (dst := (nxt (!dir) c : Thread nD τ)) (κ := K (nxt (!dir) c, 10))
      (d := dutyOf dir) (by rw [duties_bar]; cases dir <;> decide) ((amount_bar wt (nxt (!dir) c) 0 (dutyOf dir)).trans (by decide)) 0 O rfl)
    $$ [HO HtB]
  · isplitr; · (iapply (env_bar wt K KI (nxt (!dir) c)); iexact HE)
    isplitl [HO]; · iexact HO
    isplitl [HtB]; · iexact HtB
    isplitr
    · rw [payload_bar]; unfold facts; rw [Finset.range_one, bigSep_singleton]; iexact Hfact
    iapply (env_bar0 wt K KI (nxt (!dir) c)); iexact HE
  iintro HO
  iapply Hk
  isplitr [HO]
  · isplitl [HpS]; · iexact HpS
    isplitl [HpV]; · iexact HpV
    isplitl [Hr0 Hr1]
    · unfold rds
      isplitl [Hr0]; · iexact Hr0
      iexact Hr1
    isplitl [Hg]; · iexact Hg
    isplitl [HtS]; · iexact HtS
    isplitl [HtC]; · iexact HtC
    isplitl [HvC]; · iexact HvC
    isplitl [HcC]; · iexact HcC
    isplitl [Hf0]; · iexact Hf0
    iexact Hfact
  iexists W; iexact HO

/-- The wait for both neighbours. -/
theorem wp_barrier {O : CellTallies nD τ sig ℕ} (hO : Hi 2 O) {α : Type} {Q : α → sProp 𝕄}
    {k : PUnit → Prog (TpuEff nD τ sig (Elt F) Λ₀ .tc) α} :
    iprop(Env wt K KI ∗ atPos ER (bC c) 0 ∅ 0 ∗ cred (tallyAt (bC c) 0 2) ∗ ows c O)
      ⊢ iprop(((semVal (bC c) 0 ∗ fact true c 0 ∗ fact false c 0 ∗ ows c O) -∗ run c (k ⟨⟩) Q) -∗ run c (semWaitWord semB 2#32 >>= k) Q) := by
  unfold ows
  iintro ⟨#HE, Ha, Hc, %W, HO⟩ Hk
  simp only [semWaitWord, Prog.lift, Prog.bind_op, Prog.bind_ret]
  iapply (Rounds.wp_wait_rest_token 𝒱₀ ER (Rd wt) (c : Thread nD τ) none (κ := K (c, 10))
      (wpE_semWait_eq 𝒱₀ (c : Thread nD τ) none Set.univ) (Set.mem_univ _) 0 (O := O) (W := W) (R := 0) (m := 0) (T := ∅)
      (by rw [expect_bar]; decide)) $$ [Hc HO Ha]
  · isplitr; · (iapply (env_bar wt K KI c); iexact HE)
    isplitl [Hc]; · iexact Hc
    isplitl [HO]; · iexact HO
    isplitr
    · iapply (env_mayWait wt K KI c (.reg semB) 0 (by decide) (by rw [lv_bar]; exact hO)); iexact HE
    iexact Ha
  iintro ⟨HO, Ha, -, Hpay⟩
  imod (Rounds.cell_close ER (Rd wt) (Set.mem_univ (K (c, 10))) (fun h => h) (R := 0 + 1) (duties_bar_done wt c)) $$ [Ha] with Hz
  · isplitr; · (iapply (env_bar wt K KI c); iexact HE)
    iexact Ha
  ihave Hp := (Entails.of_eq (show bigSep ((Rd wt).duties (bC c) 0 \ ∅) (fun d => (Rd wt).payload (bC c) 0 d) = iprop(fact true c 0 ∗ fact false c 0) by
    rw [duties_bar, Finset.sdiff_empty, show ({0, 1} : Finset ℕ) = insert 1 {0} by decide, bigSep_insert (by decide), bigSep_singleton]
    rw [show (Rd wt).payload (bC c) 0 1 = _ from payload_bar wt c true, show (Rd wt).payload (bC c) 0 0 = _ from payload_bar wt c false]
    unfold facts; rw [Finset.range_one, bigSep_singleton, bigSep_singleton]; rfl)) $$ Hpay
  icases Hp with ⟨H1, H0⟩
  iapply Hk
  isplitl [Hz]; · iexact Hz
  isplitl [H1]; · iexact H1
  isplitl [H0]; · iexact H0
  iexists _; iexact HO

/-- The first transfer of a direction. -/
theorem wp_first (dir : Bool) {n : Dev nD} (hn : n = nxt dir c) {O O' : CellTallies nD τ sig ℕ} (hO : O = O' + tallyAt (vC dir (par (0 + 1)) (nxt dir c)) 0 N)
    {α : Type} {Q : α → sProp 𝕄} {k : PUnit → Prog (TpuEff nD τ sig (Elt F) Λ₀ .tc) α} :
    iprop(Env wt K KI ∗ fact dir c 0
        ∗ (pos2 (sCell dir c) 0 ∗ pos2 (vCell dir c) 0 ∗ rds dir c 0 ∗ got dir c 0 ∗ sToks dir c 0 ∗ cToks dir c 0 ∗ vCreds dir c 0 ∗ cCreds dir c 0
          ∗ slotP dir (0 : Fin 2) c fullShare (wt c) ∗ fact dir (nxt (!dir) c) 0) ∗ ows c O)
      ⊢ iprop(((st wt dir c 0 ∗ ows c O') -∗ run c (k ⟨⟩) Q) -∗ run c (send dir 0 n >>= k) Q) := by
  subst hO
  unfold st
  iintro ⟨#HE, #Hf1, ⟨HpS, HpV, Hr, Hg, HtS, HtC, HvC, HcC, HS, #Hf⟩, HO⟩ Hk
  iapply (wp_send wt K KI c dir 0 hn (by cases dir <;> decide)) $$ [HtS HS HO]
  · isplitr; · iexact HE
    isplitl [HtS]; · iexact HtS
    isplitr; · iexact Hf1
    isplitl [HS]
    · rw [org_zero]; iexact HS
    isplitr; · (iapply (env_snd0 wt K KI c dir (par 0)); iexact HE)
    iexact HO
  iintro ⟨HtS, Hc, HL, HO⟩
  iapply Hk
  isplitr [HO]
  · isplitl [HpS]; · iexact HpS
    isplitl [HpV]; · iexact HpV
    isplitl [Hr]; · iexact Hr
    isplitl [Hg]; · iexact Hg
    isplitl [Hc]; · iexact Hc
    isplitl [HL]; · iexact HL
    isplitl [HtS]; · iexact HtS
    isplitl [HtC]; · iexact HtC
    isplitl [HvC]; · iexact HvC
    isplitl [HcC]; · iexact HcC
    unfold facts; rw [Nat.zero_add, Finset.range_one, bigSep_singleton]; iexact Hf
  iexact HO

/-- The weights' staging buffer. -/
abbrev ewP (W : Vec F S4x256x512 .f32) : sProp 𝕄 := ((c : Thread nD τ).loc cc0_stg3_0) ↦{fullShare} W

/-- Everything before the first load. -/
theorem wp_enter {α : Type} {Q : α → sProp 𝕄} {k : PUnit → Prog (TpuEff nD τ sig (Elt F) Λ₀ .tc) α} :
    iprop(Env wt K KI ∗ stI c true ∗ stI c false ∗ (atPos ER (bC c) 0 ∅ 0 ∗ cred (tallyAt (bC c) 0 2)) ∗ ewP c (wt c) ∗ ows c (O₀ c))
      ⊢ iprop(((semVal (bC c) 0 ∗ st wt true c 0 ∗ st wt false c 0 ∗ ewP c (wt c) ∗ ows c (ow c 1 1 0 0)) -∗ run c (k ⟨⟩) Q) -∗ run c (enter c >>= k) Q) := by
  iintro ⟨#HE, HT, HF, ⟨Ha, Hc⟩, HW, HO⟩ Hk
  unfold enter
  simp only [Prog.bind_assoc]
  unfold O₀
  iapply (wp_tell wt K KI c true (lft_eq c)) $$ [HT HO]
  · isplitr; · iexact HE
    isplitl [HT] <;> iassumption
  iintro ⟨HT, HO⟩
  iapply (wp_tell wt K KI c false (rgt_eq c)) $$ [HF HO]
  · isplitr; · iexact HE
    isplitl [HF] <;> iassumption
  iintro ⟨HF, HO⟩
  iapply (wp_barrier wt K KI c (hi_ow c (k := 0) (le_refl _) (le_refl _) (le_refl _) (le_refl _))) $$ [Ha Hc HO]
  · isplitr; · iexact HE
    isplitl [Ha]; · iexact Ha
    isplitl [Hc] <;> iassumption
  iintro ⟨Hz, #Hf1, #Hf0, HO⟩
  unfold stB
  icases HT with ⟨TpS, TpV, Tr, Tg, TtS, TtC, TvC, TcC, TS, #Tf⟩
  icases HF with ⟨FpS, FpV, Fr, Fg, FtS, FtC, FvC, FcC, FS, #Ff⟩
  iapply (wp_fill true c (wt c)) $$ [HW TS]
  · isplitl [HW] <;> iassumption
  iintro ⟨HW, TS⟩
  iapply (wp_fill false c (wt c)) $$ [HW FS]
  · isplitl [HW] <;> iassumption
  iintro ⟨HW, FS⟩
  iapply (wp_first wt K KI c true (toward_eq c true) (ow_sendR c 0 0 0 (show 0 < 16 by omega))) $$ [TpS TpV Tr Tg TtS TtC TvC TcC TS HO]
  · isplitr; · iexact HE
    isplitr; · iexact Hf1
    isplitr [HO]
    · isplitl [TpS]; · iexact TpS
      isplitl [TpV]; · iexact TpV
      isplitl [Tr]; · iexact Tr
      isplitl [Tg]; · iexact Tg
      isplitl [TtS]; · iexact TtS
      isplitl [TtC]; · iexact TtC
      isplitl [TvC]; · iexact TvC
      isplitl [TcC]; · iexact TcC
      isplitl [TS]; · iexact TS
      iexact Tf
    iexact HO
  iintro ⟨HT, HO⟩
  iapply (wp_first wt K KI c false (toward_eq c false) (ow_sendL c 1 0 0 (show 0 < 15 by omega))) $$ [FpS FpV Fr Fg FtS FtC FvC FcC FS HO]
  · isplitr; · iexact HE
    isplitr; · iexact Hf0
    isplitr [HO]
    · isplitl [FpS]; · iexact FpS
      isplitl [FpV]; · iexact FpV
      isplitl [Fr]; · iexact Fr
      isplitl [Fg]; · iexact Fg
      isplitl [FtS]; · iexact FtS
      isplitl [FtC]; · iexact FtC
      isplitl [FvC]; · iexact FvC
      isplitl [FcC]; · iexact FcC
      isplitl [FS]; · iexact FS
      iexact Ff
    iexact HO
  iintro ⟨HF, HO⟩
  iapply Hk
  isplitl [Hz]; · iexact Hz
  isplitl [HT]; · iexact HT
  isplitl [HF]; · iexact HF
  isplitl [HW] <;> iassumption

/-! ## The program -/

/-- A device's result, of its staged operands. -/
def outV (x : Vec F S1024x256 .f32) (rw : Vec F S256x128 .f32) (idx : Vec F S1024x1 .i32) (sw : Vec F S256x512 .f32) : Vec F S1024x512 .f32 :=
  let X := k0_pay4 x
  let I := k0_pay6 idx
  let P := k0_pay7 (k0_pay5 x rw) idx
  roundV wt c X I P true 15 (roundV wt c X I P false 14 (roundV wt c X I P true 14 (stepsV wt c X I P 14 0 (homeV c x rw idx sw (wt c)))))

/-- The staging buffers that are only read. -/
def insP (x : Vec F S1024x256 .f32) (rw : Vec F S256x128 .f32) (idx : Vec F S1024x1 .i32) (sw : Vec F S256x512 .f32) : sProp 𝕄 :=
  iprop((((c : Thread nD τ).loc cc0_stg0_0) ↦{fullShare} x) ∗ (((c : Thread nD τ).loc cc0_stg1_0) ↦{fullShare} rw)
    ∗ (((c : Thread nD τ).loc cc0_stg2_0) ↦{fullShare} idx) ∗ (((c : Thread nD τ).loc cc0_stg4_0) ↦{fullShare} sw))

/-- The loads of the operands. -/
theorem wp_loads (x : Vec F S1024x256 .f32) (rw : Vec F S256x128 .f32) (idx : Vec F S1024x1 .i32) (sw : Vec F S256x512 .f32) (ew : Vec F S4x256x512 .f32)
    {α : Type} {Q : α → sProp 𝕄}
    {k : Vec F S1024x256 .f32 → Vec F S256x128 .f32 → Vec F S1024x1 .i32 → Vec F S256x512 .f32 → Vec F S4x256x512 .f32 → Prog (TpuEff nD τ sig (Elt F) Λ₀ .tc) α} :
    iprop(insP c x rw idx sw ∗ ewP c ew)
      ⊢ iprop(((insP c x rw idx sw ∗ ewP c ew) -∗ run c (k x rw idx sw ew) Q)
        -∗ run c (Prog.lift (.load xM (Rect.unit (s := S1024x256) ![0, 0] S1024x256.size inb_S1024x256_S1024x256_0_0).toLoadRect (View.loadsAt_vmem h_S1024x256)) >>= fun x =>
          Prog.lift (.load rwM (Rect.unit (s := S256x128) ![0, 0] S256x128.size inb_S256x128_S256x128_0_0).toLoadRect (View.loadsAt_vmem h_S256x128)) >>= fun rw =>
          Prog.lift (.load idxM (Rect.unit (s := S1024x1) ![0, 0] S1024x1.size inb_S1024x1_S1024x1_0_0).toLoadRect (View.loadsAt_vmem h_S1024x1)) >>= fun idx =>
          Prog.lift (.load swM (Rect.unit (s := S256x512) ![0, 0] S256x512.size inb_S256x512_S256x512_0_0).toLoadRect (View.loadsAt_vmem h_S256x512)) >>= fun sw =>
          loadW >>= fun ew => k x rw idx sw ew) Q) := by
  unfold insP loadW
  iintro ⟨⟨Hx, Hrw, Hi, Hsw⟩, Hew⟩ Hk
  simp only [Prog.lift, Prog.bind_op, Prog.bind_ret]
  have e0 : (xM : Memref sig .tc .vmem S1024x256 .f32).view.readAt (Elt F) (Rect.unit (s := S1024x256) ![0, 0] S1024x256.size inb_S1024x256_S1024x256_0_0).toLoadRect x = x :=
    Memref.readAt_unit_zero (Elt F) cc0_stg0_0 (funext fun a => by fin_cases a <;> rfl) _ _
  have e1 : (rwM : Memref sig .tc .vmem S256x128 .f32).view.readAt (Elt F) (Rect.unit (s := S256x128) ![0, 0] S256x128.size inb_S256x128_S256x128_0_0).toLoadRect rw = rw :=
    Memref.readAt_unit_zero (Elt F) cc0_stg1_0 (funext fun a => by fin_cases a <;> rfl) _ _
  have e2 : (idxM : Memref sig .tc .vmem S1024x1 .i32).view.readAt (Elt F) (Rect.unit (s := S1024x1) ![0, 0] S1024x1.size inb_S1024x1_S1024x1_0_0).toLoadRect idx = idx :=
    Memref.readAt_unit_zero (Elt F) cc0_stg2_0 (funext fun a => by fin_cases a <;> rfl) _ _
  have e3 : (swM : Memref sig .tc .vmem S256x512 .f32).view.readAt (Elt F) (Rect.unit (s := S256x512) ![0, 0] S256x512.size inb_S256x512_S256x512_0_0).toLoadRect sw = sw :=
    Memref.readAt_unit_zero (Elt F) cc0_stg4_0 (funext fun a => by fin_cases a <;> rfl) _ _
  have e4 : (ewM : Memref sig .tc .vmem S4x256x512 .f32).view.readAt (Elt F) (Rect.unit (s := S4x256x512) ![0, 0, 0] S4x256x512.size inb_S4x256x512_S4x256x512_0_0_0).toLoadRect ew = ew :=
    Memref.readAt_unit_zero (Elt F) cc0_stg3_0 (funext fun a => by fin_cases a <;> rfl) _ _
  iapply (wp_load 𝒱₀ (c : Thread nD τ) none Set.univ (m := xM) (Finset.subset_univ _)) $$ Hx
  iintro Hx
  iapply (wp_load 𝒱₀ (c : Thread nD τ) none Set.univ (m := rwM) (Finset.subset_univ _)) $$ Hrw
  iintro Hrw
  iapply (wp_load 𝒱₀ (c : Thread nD τ) none Set.univ (m := idxM) (Finset.subset_univ _)) $$ Hi
  iintro Hi
  iapply (wp_load 𝒱₀ (c : Thread nD τ) none Set.univ (m := swM) (Finset.subset_univ _)) $$ Hsw
  iintro Hsw
  iapply (wp_load 𝒱₀ (c : Thread nD τ) none Set.univ (m := ewM) (Finset.subset_univ _)) $$ Hew
  iintro Hew
  rw [e0, e1, e2, e3, e4]
  iapply Hk
  isplitr [Hew]
  · isplitl [Hx]; · iexact Hx
    isplitl [Hrw]; · iexact Hrw
    isplitl [Hi] <;> iassumption
  iexact Hew

/-- The program on one device: its result, its operands as they were, its semaphores at zero and its buffers whole. -/
theorem wp_prog (x : Vec F S1024x256 .f32) (rw : Vec F S256x128 .f32) (idx : Vec F S1024x1 .i32) (sw : Vec F S256x512 .f32) (f : Vec F S1024x512 .f32)
    {Q : PUnit → sProp 𝕄} :
    iprop(Env wt K KI ∗ stI c true ∗ stI c false ∗ (atPos ER (bC c) 0 ∅ 0 ∗ cred (tallyAt (bC c) 0 2)) ∗ ewP c (wt c) ∗ ows c (O₀ c)
        ∗ insP c x rw idx sw ∗ outP c f)
      ⊢ iprop(((semVal (bC c) 0 ∗ stE c true ∗ stE c false ∗ ewP c (wt c) ∗ ows c (0 : CellTallies nD τ sig ℕ)
            ∗ insP c x rw idx sw ∗ outP c (outV wt c x rw idx sw)) -∗ Q ⟨⟩)
        -∗ run c prog Q) := by
  iintro ⟨#HE, HT, HF, HB, HW, HO, Hins, Hout⟩ Hk
  rw [show (prog : Prog (TpuEff nD τ sig (Elt F) Λ₀ .tc) PUnit) = (prog >>= fun u => Prog.ret u) from (Prog.bind_pure _).symm]
  unfold prog
  simp only [Prog.bind_assoc]
  rw [show (Prog.lift .deviceId : Prog (TpuEff nD τ sig (Elt F) Λ₀ .tc) (Dev nD)) = .op .deviceId .ret from rfl, Prog.bind_op]
  unfold run
  rw [wp_deviceId]
  simp only [Prog.bind_ret]
  iapply (wp_enter wt K KI c) $$ [HT HF HB HW HO]
  · isplitr; · iexact HE
    isplitl [HT]; · iexact HT
    isplitl [HF]; · iexact HF
    isplitl [HB]; · iexact HB
    isplitl [HW] <;> iassumption
  iintro ⟨Hz, HT, HF, HW, HO⟩
  iapply (wp_loads c x rw idx sw (wt c)) $$ [Hins HW]
  · isplitl [Hins] <;> iassumption
  iintro ⟨Hins, HW⟩
  iapply (wp_loadO c f) $$ Hout
  iintro Hout
  iapply (wp_storeO c f _) $$ Hout
  iintro Hout
  iapply (wp_steps wt K KI c _ _ _ 14 0 (by decide) _) $$ [HT HF HO Hout]
  · isplitr; · iexact HE
    isplitl [HT]; · iexact HT
    isplitl [HF]; · iexact HF
    isplitl [HO] <;> iassumption
  iintro ⟨HT, HF, HO, Hout⟩
  iapply (wp_step14 wt K KI c _ _ _ _) $$ [HT HF HO Hout]
  · isplitr; · iexact HE
    isplitl [HT]; · iexact HT
    isplitl [HF]; · iexact HF
    isplitl [HO] <;> iassumption
  iintro ⟨HT, ⟨HF, HFs⟩, HO, Hout⟩
  iapply (wp_step15 wt K KI c _ _ _ _) $$ [HT HO Hout]
  · isplitr; · iexact HE
    isplitl [HT]; · iexact HT
    isplitl [HO] <;> iassumption
  iintro ⟨⟨HT, HTs⟩, HO, Hout⟩
  iapply (wp_creditLast wt K KI c true 15 rfl (Hi.zero _)) $$ [HT HTs HO]
  · isplitr; · iexact HE
    isplitl [HT]; · iexact HT
    isplitl [HTs] <;> iassumption
  iintro ⟨HT, HO⟩
  iapply (wp_creditLast wt K KI c false 14 rfl (Hi.zero _)) $$ [HF HFs HO]
  · isplitr; · iexact HE
    isplitl [HF]; · iexact HF
    isplitl [HFs] <;> iassumption
  iintro ⟨HF, HO⟩
  imod (close wt K KI c true) $$ [HT] with HT
  · isplitr; · iexact HE
    iexact HT
  imod (close wt K KI c false) $$ [HF] with HF
  · isplitr; · iexact HE
    iexact HF
  rw [wp_ret]
  imodintro
  iapply Hk
  isplitl [Hz]; · iexact Hz
  isplitl [HT]; · iexact HT
  isplitl [HF]; · iexact HF
  isplitl [HW]; · iexact HW
  isplitl [HO]; · iexact HO
  isplitl [Hins]; · iexact Hins
  iexact Hout

end Cert.Ring

end
-- ==== Proof.Fund.lean ====
/-
The launch: the tokens, the invariants and the credits every device starts from.
-/
module

public import proofs.«01_k».proof.Proof.Ends
public import Idealize.ShloMosaic.Lib.Pipeline.Launch
public import Idealize.ShloMosaic.Lib.Pipeline.Kit

@[expose] public section

set_option maxRecDepth 8000

noncomputable section

namespace Cert.Ring

open Cert.KernelIdeal Cert.KernelIdeal.Gen
open Idealize Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (wt : Dev nD → Vec F S4x256x512 .f32)

/-! ## The tokens and the cells the launch makes -/

theorem kcell_injective : Function.Injective kcell := by
  rintro ⟨c, k⟩ ⟨c', k'⟩ h
  have h1 : c = c' := congrArg (fun g : GSem nD τ sig => g.1.1) h
  have h2 : osem k = osem k' := congrArg Prod.snd h
  have h3 : ∀ k k' : Fin 11, osem k = osem k' → k = k' := by decide
  rw [h1, h3 k k' h2]

def ringCells : Finset (GSem nD τ sig) := Finset.univ.map ⟨kcell, kcell_injective⟩

/-- A device's tokens: direction, which semaphore, transfer. -/
abbrev TokIx : Type := Bool × Fin 4 × Fin 16

/-- The semaphore, the round and the duty of a token. -/
def tok (j : TokIx) : SemLoc sig × ℕ × ℕ :=
  match j.2.1 with
  | 0 => (.dma (semS j.1 (par j.2.2.val)), j.2.2.val / 2, 0)
  | 1 => (.dma (semV j.1 (par (j.2.2.val + 1))), j.2.2.val / 2, 0)
  | 2 => (.reg (semC j.1), 0, j.2.2.val)
  | 3 => (.reg semB, j.2.2.val, dutyOf j.1)

/-- The direction, the semaphore and the transfer read back from a token. -/
def untok (x : SemLoc sig × ℕ × ℕ) : Bool × ℕ × ℕ :=
  match kind x.1 with
  | .snd dir i => (dir, 0, 2 * x.2.1 + i.val)
  | .rcv dir i => (dir, 1, 2 * x.2.1 + 1 - i.val)
  | .crd dir => (dir, 2, x.2.2)
  | .bar => (dirOf x.2.2, 3, x.2.1)
  | .oth => (true, 4, 0)

theorem untok_tok : ∀ j : TokIx, untok (tok j) = (j.1, j.2.1.val, j.2.2.val) := by
  rintro ⟨dir, k, h⟩
  fin_cases k
  · show untok (.dma (semS dir (par h.val)), h.val / 2, 0) = _
    unfold untok; rw [kind_snd]; show (dir, 0, 2 * (h.val / 2) + h.val % 2) = (dir, 0, h.val)
    rw [Nat.div_add_mod]
  · show untok (.dma (semV dir (par (h.val + 1))), h.val / 2, 0) = _
    unfold untok; rw [kind_rcv]; show (dir, 1, 2 * (h.val / 2) + 1 - (h.val + 1) % 2) = (dir, 1, h.val)
    rw [show 2 * (h.val / 2) + 1 - (h.val + 1) % 2 = h.val by omega]
  · show untok (.reg (semC dir), 0, h.val) = _
    unfold untok; rw [kind_crd]
  · show untok (.reg semB, h.val, dutyOf dir) = _
    unfold untok; rw [kind_bar]; cases dir <;> rfl

abbrev tokOf (cj : Dev nD × TokIx) : GSem nD τ sig × ℕ × ℕ := (((cj.1 : Thread nD τ), (tok cj.2).1), (tok cj.2).2)

theorem tokOf_injective : Function.Injective tokOf := by
  rintro ⟨c, j⟩ ⟨c', j'⟩ h
  have h1 : c = c' := congrArg (fun x : GSem nD τ sig × ℕ × ℕ => x.1.1.1) h
  have h2 : tok j = tok j' := congrArg (fun x : GSem nD τ sig × ℕ × ℕ => (x.1.2, x.2)) h
  have h3 := congrArg untok h2
  rw [untok_tok, untok_tok] at h3
  obtain ⟨d, k, t⟩ := j; obtain ⟨d', k', t'⟩ := j'
  have e1 : d = d' := congrArg Prod.fst h3
  have e2 : k = k' := Fin.ext (congrArg (fun x : Bool × ℕ × ℕ => x.2.1) h3)
  have e3 : t = t' := Fin.ext (congrArg (fun x : Bool × ℕ × ℕ => x.2.2) h3)
  rw [h1, e1, e2, e3]

def ringToks : Finset (GSem nD τ sig × ℕ × ℕ) := Finset.univ.map ⟨tokOf, tokOf_injective⟩

def u₀ : UU :=
  (initOf (Pipeline.cells cfgs cellOf_inj) (Pipeline.launchToks cfgs cellOf_inj),
    (initOf ringCells ringToks, initSlots (Finset.univ : Finset Key) 8))

/-! ## Dealing them -/

omit [FloatOps F] in
theorem bigSep_bool (Φ : Bool → sProp 𝕄) : bigSep Finset.univ Φ = iprop(Φ true ∗ Φ false) :=
  bigSep_univ_eq_bigSepL [true, false] (by decide) (by decide) Φ
omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- Sixteen of a kind are enough for every transfer of a direction. -/
theorem ico_of_fin (dir : Bool) (Φ : ℕ → sProp 𝕄) : (bigSep Finset.univ fun h : Fin 16 => Φ h.val) ⊢ bigSep (Finset.Ico 0 (len dir)) Φ := by
  rw [show (bigSep Finset.univ fun h : Fin 16 => Φ h.val) = bigSep (Finset.univ.map Fin.valEmbedding) Φ from (bigSep_map Fin.valEmbedding).symm]
  refine bigSep_subset fun h hh => ?_
  have h1 := (Finset.mem_Ico.mp hh).2
  have h2 := len_le dir
  exact Finset.mem_map.mpr ⟨⟨h, by omega⟩, Finset.mem_univ _, rfl⟩

/-- What a device's semaphores are paid with. -/
def mint (dir : Bool) (c : Dev nD) : sProp 𝕄 :=
  iprop((bigSep (Finset.Ico 0 (len dir)) fun h => dutyTok ER (sC dir (par h) c) (h / 2) 0)
    ∗ (bigSep (Finset.Ico 0 (len dir)) fun h => dutyTok ER (vC dir (par (h + 1)) c) (h / 2) 0)
    ∗ (bigSep (Finset.Ico 0 (len dir)) fun h => dutyTok ER (cC dir c) 0 h)
    ∗ dutyTok ER (bC c) 0 (dutyOf dir))

omit [FloatOps F] in
theorem mint_intro (dir : Bool) (c : Dev nD) :
    (bigSep Finset.univ fun k : Fin 4 => bigSep Finset.univ fun h : Fin 16 => dutyTok ER (tokOf (c, dir, k, h)).1 (tokOf (c, dir, k, h)).2.1 (tokOf (c, dir, k, h)).2.2)
      ⊢ (mint dir c : sProp 𝕄) := by
  rw [bigSep_four]
  unfold mint
  refine BI.sep_mono (ico_of_fin dir fun h => dutyTok ER (sC dir (par h) c) (h / 2) 0)
    (BI.sep_mono (ico_of_fin dir fun h => dutyTok ER (vC dir (par (h + 1)) c) (h / 2) 0)
      (BI.sep_mono (ico_of_fin dir fun h => dutyTok ER (cC dir c) 0 h) ?_))
  have e : ∀ h : Fin 16, tokOf (c, dir, 3, h) = (bC c, h.val, dutyOf dir) := fun _ => rfl
  simp only [e]
  refine (big_at (fun h : Fin 16 => (dutyTok ER (bC c) h.val (dutyOf dir) : sProp 𝕄)) (Finset.mem_univ ⟨0, by decide⟩)).trans ?_
  exact Entails.refl _

omit [FloatOps F] in
theorem toks_split : (bigSep ringToks fun x => dutyTok ER x.1 x.2.1 x.2.2)
    ⊢ (iprop((bigSep Finset.univ fun c => mint true c) ∗ bigSep Finset.univ fun c => mint false c) : sProp 𝕄) := by
  unfold ringToks
  rw [bigSep_map, bigSep_univ_prod, ← bigSep_sep']
  refine bigSep_mono fun c _ => ?_
  rw [bigSep_univ_prod, bigSep_bool]
  refine BI.sep_mono ?_ ?_ <;> rw [bigSep_univ_prod] <;> exact mint_intro _ c

/-- The write tokens of a device's slots, by transfer. -/
def wToks (dir : Bool) (c : Dev nD) : sProp 𝕄 := bigSep (Finset.Ico 0 (len dir)) fun h => writeTok ES (c, dir, par (h + 1)) (h / 2 + 1)

/-- A transfer's key and trip. -/
def wkey (j : Dev nD × Bool × Fin 16) : Key × ℕ := ((j.1, j.2.1, par (j.2.2.val + 1)), j.2.2.val / 2)

theorem wkey_injective : Function.Injective wkey := by
  rintro ⟨c, d, h⟩ ⟨c', d', h'⟩ e
  have e1 : c = c' := congrArg (fun x : Key × ℕ => x.1.1) e
  have e2 : d = d' := congrArg (fun x : Key × ℕ => x.1.2.1) e
  have e3 : (h.val + 1) % 2 = (h'.val + 1) % 2 := congrArg (fun x : Key × ℕ => x.1.2.2.val) e
  have e4 : h.val / 2 = h'.val / 2 := congrArg Prod.snd e
  have e5 : h = h' := Fin.ext (by omega)
  rw [e1, e2, e5]

omit [FloatOps F] in
theorem wToks_split : (bigSep ((Finset.univ : Finset Key) ×ˢ Finset.range 8) fun x => writeTok ES x.1 (x.2 + 1))
    ⊢ (iprop((bigSep Finset.univ fun c => wToks true c) ∗ bigSep Finset.univ fun c => wToks false c) : sProp 𝕄) := by
  refine (bigSep_subset (t := Finset.univ.map ⟨wkey, wkey_injective⟩) fun x hx => ?_).trans ?_
  · obtain ⟨j, -, rfl⟩ := Finset.mem_map.mp hx
    have := j.2.2.isLt
    exact Finset.mem_product.mpr ⟨Finset.mem_univ _, Finset.mem_range.mpr (show j.2.2.val / 2 < 8 by omega)⟩
  rw [bigSep_map, bigSep_univ_prod, ← bigSep_sep']
  refine bigSep_mono fun c _ => ?_
  rw [bigSep_univ_prod, bigSep_bool]
  unfold wToks
  exact BI.sep_mono (ico_of_fin true fun h => writeTok ES (c, true, par (h + 1)) (h / 2 + 1)) (ico_of_fin false fun h => writeTok ES (c, false, par (h + 1)) (h / 2 + 1))

/-- The counts a device reads its slots with. -/
def rd0 (dir : Bool) (c : Dev nD) : sProp 𝕄 := iprop(readerAt ES (c, dir, (0 : Fin 2)) 0 ∗ readerAt ES (c, dir, (1 : Fin 2)) 0)

omit [FloatOps F] in
theorem rd0_split : (bigSep (Finset.univ : Finset Key) fun k => readerAt ES k 0)
    ⊢ (iprop((bigSep Finset.univ fun c => rd0 true c) ∗ bigSep Finset.univ fun c => rd0 false c) : sProp 𝕄) := by
  rw [bigSep_univ_prod, ← bigSep_sep']
  refine bigSep_mono fun c _ => ?_
  rw [bigSep_univ_prod, bigSep_bool]
  unfold rd0
  refine BI.sep_mono ?_ ?_ <;>
    exact Entails.of_eq (bigSep_univ_eq_bigSepL [(0 : Fin 2), 1] (by decide) (by decide) _)

/-- What a device pays with in a direction, and its slots' counts. -/
def lin (dir : Bool) (c : Dev nD) : sProp 𝕄 :=
  iprop(sToks dir c 0 ∗ cToks dir c 0 ∗ dutyTok ER (bC (nxt (!dir) c)) 0 (dutyOf dir) ∗ rd0 dir c)

omit [FloatOps F] in
/-- The tokens dealt around the ring. -/
theorem deal (dir : Bool) : iprop((bigSep Finset.univ fun c => mint dir c) ∗ (bigSep Finset.univ fun c => wToks dir c) ∗ bigSep Finset.univ fun c => rd0 dir c)
    ⊢ (bigSep Finset.univ fun c => lin dir c : sProp 𝕄) := by
  unfold mint lin
  simp only [sToks, sTok, bigSep_sep']
  rw [bigSep_univ_equiv (ring dir) (fun c : Dev nD => (bigSep (Finset.Ico 0 (len dir)) fun h => dutyTok ER (vC dir (par (h + 1)) c) (h / 2) 0 : sProp 𝕄)),
    bigSep_univ_equiv (ring (!dir)) (fun c : Dev nD => (bigSep (Finset.Ico 0 (len dir)) fun h => dutyTok ER (cC dir c) 0 h : sProp 𝕄)),
    bigSep_univ_equiv (ring (!dir)) (fun c : Dev nD => (dutyTok ER (bC c) 0 (dutyOf dir) : sProp 𝕄)),
    bigSep_univ_equiv (ring dir) (fun c : Dev nD => (wToks dir c : sProp 𝕄))]
  iintro ⟨⟨H1, H2, H3, H4⟩, H5, H6⟩
  isplitl [H1 H2 H5]
  · isplitl [H1]; · iexact H1
    isplitl [H2]; · iexact H2
    iexact H5
  isplitl [H3]; · iexact H3
  isplitl [H4]; · iexact H4
  iexact H6

/-- The slots' invariants. -/
def slotsI : sProp 𝕄 := iprop(∃ KI : Key → ℕ, bigSep Finset.univ fun k => slotInv ES (KI k) k (freeP (F := F) k))
instance slotsI_persistent : BI.Persistent (slotsI (F := F)) := by unfold slotsI; infer_instance

/-- What the launch deals device `c`. -/
def G (c : Dev nD) : sProp 𝕄 :=
  iprop((bigSep Finset.univ fun k : Fin 11 => roundState ER (Rd wt) (kcell (c, k)) 0)
    ∗ (bigSep Finset.univ fun k : Fin 11 => iprop(atPos ER (kcell (c, k)) 0 ∅ 0 ∗ reached ER (kcell (c, k)) 0))
    ∗ slotsI (F := F) ∗ lin true c ∗ lin false c)

theorem fund_ring : BI.own (EX (initOf ringCells ringToks, initSlots (Finset.univ : Finset Key) 8)) ⊢ (|={Set.univ}=> bigSep Finset.univ (G wt) : sProp 𝕄) := by
  have hX (Φ : GSem nD τ sig → sProp 𝕄) : bigSep ringCells Φ = bigSep Finset.univ fun c : Dev nD => bigSep Finset.univ fun k : Fin 11 => Φ (kcell (c, k)) := by
    unfold ringCells; rw [bigSep_map, bigSep_univ_prod]; rfl
  iintro HX
  ihave H := (own_pair_emb (EX (F := F)) _ _) $$ HX
  icases H with ⟨HR, HS⟩
  imod (Rounds.fund ER (Rd wt) ringCells ringToks) $$ HR with ⟨Hst, Hr, Hat, Htok⟩
  imod (slots_init (Es := Set.univ) ES (Finset.univ : Finset Key) 8 (fun k => freeP (F := F) k)) $$ HS with ⟨%KI, -, #HI, Hrd, Hw⟩
  imodintro
  ihave Hst' := (Entails.of_eq (hX fun g => roundState ER (Rd wt) g 0)) $$ Hst
  ihave Hat' := (Entails.of_eq (hX fun g => atPos ER g 0 ∅ 0)) $$ Hat
  ihave Hr' := (Entails.of_eq (hX fun g => reached ER g 0)) $$ Hr
  ihave Htok' := (toks_split (F := F)) $$ Htok
  icases Htok' with ⟨HtT, HtF⟩
  ihave Hw' := (wToks_split (F := F)) $$ Hw
  icases Hw' with ⟨HwT, HwF⟩
  ihave Hrd' := (rd0_split (F := F)) $$ Hrd
  icases Hrd' with ⟨HrT, HrF⟩
  ihave HT := (deal (F := F) true) $$ [HtT HwT HrT]
  · isplitl [HtT]; · iexact HtT
    isplitl [HwT] <;> iassumption
  ihave HF := (deal (F := F) false) $$ [HtF HwF HrF]
  · isplitl [HtF]; · iexact HtF
    isplitl [HwF] <;> iassumption
  unfold G; simp only [bigSep_sep']
  isplitl [Hst']; · iexact Hst'
  isplitl [Hat' Hr']
  · isplitl [Hat'] <;> iassumption
  isplitr
  · iapply (BI.bigSep_of_persistent Finset.univ (slotsI (F := F)))
    unfold slotsI; iexists KI; iexact HI
  isplitl [HT] <;> iassumption

/-! ## The invariants -/

abbrev osem' (k : Fin 10) : SemLoc sig := osem k.castSucc

omit [FloatOps F] in
theorem ownSems0_eq (c : Dev nD) : (Pipeline.ownSems0 (Ix := ℕ) (Name := ℕ) (U := UU) (Lvl := ℕ) (Val := Elt F) (τ := τ) osem' c : sProp 𝕄)
    = iprop(semVal (cC true c) 0 ∗ semVal (cC false c) 0 ∗ semVal (sC true 0 c) 0 ∗ semVal (sC true 1 c) 0 ∗ semVal (vC true 0 c) 0 ∗ semVal (vC true 1 c) 0
      ∗ semVal (sC false 0 c) 0 ∗ semVal (sC false 1 c) 0 ∗ semVal (vC false 0 c) 0 ∗ semVal (vC false 1 c) 0) := by
  rw [Pipeline.ownSems0_eq_of_list c osem' [0, 1, 2, 3, 4, 5, 6, 7, 8, 9] (by decide) (by decide)]; rfl
omit [FloatOps F] in
theorem unscopedSems0_eq (c : Dev nD) : (unscopedSems0 c : sProp 𝕄) = semVal (bC c) 0 := by
  unfold unscopedSems0; rw [bigSep_eq_bigSepL_of_eq [SemLoc.reg semB] (by decide) (by decide)]; rfl
omit [FloatOps F] in
theorem bigSep_cells (c : Dev nD) (Φ : GSem nD τ sig → sProp 𝕄) : (bigSep Finset.univ fun k : Fin 11 => Φ (kcell (c, k)))
    = iprop(Φ (cC true c) ∗ Φ (cC false c) ∗ Φ (sC true 0 c) ∗ Φ (sC true 1 c) ∗ Φ (vC true 0 c) ∗ Φ (vC true 1 c)
      ∗ Φ (sC false 0 c) ∗ Φ (sC false 1 c) ∗ Φ (vC false 0 c) ∗ Φ (vC false 1 c) ∗ Φ (bC c)) := by
  rw [bigSep_univ_eq_bigSepL [(0 : Fin 11), 1, 2, 3, 4, 5, 6, 7, 8, 9, 10] (by decide) (by decide)]; rfl

omit [FloatOps F] in
theorem sems0_eq (c : Dev nD) :
    iprop(Pipeline.ownSems0 (Ix := ℕ) (Name := ℕ) (U := UU) (Lvl := ℕ) (Val := Elt F) (τ := τ) osem' c ∗ unscopedSems0 c)
      ⊢ (bigSep Finset.univ fun k : Fin 11 => semVal (kcell (c, k)) 0 : sProp 𝕄) := by
  rw [ownSems0_eq, unscopedSems0_eq, bigSep_cells c fun g => semVal g 0]
  iintro ⟨⟨H0, H1, H2, H3, H4, H5, H6, H7, H8, H9⟩, HB⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

theorem core_alloc (c : Dev nD) :
    iprop(Pipeline.ownSems0 (Ix := ℕ) (Name := ℕ) (U := UU) (Lvl := ℕ) (Val := Elt F) (τ := τ) osem' c ∗ unscopedSems0 c ∗ G wt c)
      ⊢ |={Set.univ}=> iprop((bigSep Finset.univ fun k => iprop(∃ κ : ℕ, cellInv ER (Rd wt) κ (kcell (c, k))))
          ∗ (bigSep Finset.univ fun k => iprop(atPos ER (kcell (c, k)) 0 ∅ 0 ∗ reached ER (kcell (c, k)) 0)) ∗ slotsI (F := F) ∗ lin true c ∗ lin false c) := by
  unfold G
  iintro ⟨Hos, Hus, Hst, Hat, Htok⟩
  ihave Hv := (sems0_eq (F := F) c) $$ [Hos Hus]
  · isplitl [Hos] <;> iassumption
  imod (show iprop((bigSep Finset.univ fun k : Fin 11 => semVal (kcell (c, k)) 0) ∗ bigSep Finset.univ fun k : Fin 11 => roundState ER (Rd wt) (kcell (c, k)) 0)
      ⊢ (|={Set.univ}=> bigSep Finset.univ fun k => iprop(∃ κ : ℕ, cellInv ER (Rd wt) κ (kcell (c, k))) : sProp 𝕄) from by
        rw [← bigSep_sep']
        exact (bigSep_mono fun k _ => (Rounds.body_intro ER (Rd wt) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The records every device shares. -/
def records (K : Dev nD × Fin 11 → ℕ) : sProp 𝕄 :=
  iprop((bigSep Finset.univ fun ck : Dev nD × Fin 11 => cellInv ER (Rd wt) (K ck) (kcell ck))
    ∗ bigSep Finset.univ fun ck : Dev nD × Fin 11 => reached ER (kcell ck) 0)
instance records_persistent (K : Dev nD × Fin 11 → ℕ) : BI.Persistent (records wt K) := by unfold records; infer_instance

/-- What stays with a device. -/
def mine (c : Dev nD) : sProp 𝕄 :=
  iprop((bigSep Finset.univ fun k : Fin 11 => atPos ER (kcell (c, k)) 0 ∅ 0) ∗ slotsI (F := F) ∗ lin true c ∗ lin false c)

/-- What the global step makes of it. -/
def G' (c : Dev nD) : sProp 𝕄 := iprop(∃ K, records wt K ∗ mine c)

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd wt) κ (kcell (c, k))))
          ∗ (bigSep Finset.univ fun k => iprop(atPos ER (kcell (c, k)) 0 ∅ 0 ∗ reached ER (kcell (c, k)) 0)) ∗ slotsI (F := F) ∗ lin true c ∗ lin false c) : sProp 𝕄)
      ⊢ bigSep Finset.univ (G' wt) := by
  rw [bigSep_sep', bigSep_sep', ← bigSep_univ_prod (fun ck : Dev nD × Fin 11 => iprop(∃ κ : ℕ, cellInv ER (Rd wt) κ (kcell ck))),
    bigSep_congr (s := Finset.univ) (fun (c : Dev nD) _ => bigSep_sep' Finset.univ (fun k : Fin 11 => (atPos ER (kcell (c, k)) 0 ∅ 0 : sProp 𝕄)) (fun k => reached ER (kcell (c, k)) 0)),
    bigSep_sep', ← bigSep_univ_prod (fun ck : Dev nD × Fin 11 => (reached ER (kcell ck) 0 : sProp 𝕄))]
  iintro ⟨HI, ⟨Hat, #HR⟩, Hrest⟩
  ihave HK := (BI.bigSep_exists_pi Finset.univ (fun (ck : Dev nD × Fin 11) (κ : ℕ) => (cellInv ER (Rd wt) κ (kcell ck) : sProp 𝕄))) $$ HI
  icases HK with ⟨%K, #HI⟩
  iapply (bigSep_with (R := records wt K) (Φ := mine) fun c _ => show iprop(records wt K ∗ mine c) ⊢ G' wt c from by
    unfold G'; iintro H; iexists K; iexact H)
  isplitr
  · unfold records; isplitl; · iexact HI
    iexact HR
  · unfold mine
    iapply (Entails.of_eq (bigSep_sep' Finset.univ (fun c : Dev nD => bigSep Finset.univ fun k : Fin 11 => (atPos ER (kcell (c, k)) 0 ∅ 0 : sProp 𝕄)) (fun c => iprop(slotsI (F := F) ∗ lin true c ∗ lin false c))).symm)
    isplitl [Hat]; · iexact Hat
    iexact Hrest

theorem glob : (bigSep Finset.univ fun c => iprop(Pipeline.ownSems0 (Ix := ℕ) (Name := ℕ) (U := UU) (Lvl := ℕ) (Val := Elt F) (τ := τ) osem' c ∗ unscopedSems0 c ∗ G wt c) : sProp 𝕄)
    ⊢ |={Set.univ}=> bigSep Finset.univ (G' wt) :=
  ((bigSep_mono fun c _ => core_alloc wt c).trans (bigSep_fupd _ _)).trans (BI.fupd_mono (regroup wt))

/-! ## The credits -/

omit [FloatOps F] in
theorem creds_S (dir : Bool) (c : Dev nD) : (Pipeline.launchCred (fun d => owS d dir 0) c : sProp 𝕄) ⊢ vCreds dir c 0 := by
  unfold owS vCreds
  rw [Pipeline.launchCred_sum]
  exact bigSep_mono fun k _ => Pipeline.launchCred_tallyAt (.dma (semV dir (par (k + 1)))) (nxt dir) (nxt (!dir)) (nxt_nxt_not dir) (nxt_not_nxt dir) k N c
omit [FloatOps F] in
theorem creds_C (dir : Bool) (c : Dev nD) : (Pipeline.launchCred (fun d => owC d dir 0) c : sProp 𝕄) ⊢ cCreds dir c 0 := by
  unfold owC cCreds
  rw [Pipeline.launchCred_sum]
  exact bigSep_mono fun k _ => Pipeline.launchCred_tallyAt (.reg (semC dir)) (nxt (!dir)) (nxt dir) (nxt_not_nxt dir) (nxt_nxt_not dir) k 1 c
omit [FloatOps F] in
theorem creds_B (dir : Bool) (c : Dev nD) : (Pipeline.launchCred (fun d => owB d dir) c : sProp 𝕄) ⊢ cred (tallyAt (bC c) 0 1) := by
  unfold owB
  exact Pipeline.launchCred_tallyAt (.reg semB) (nxt (!dir)) (nxt dir) (nxt_not_nxt dir) (nxt_nxt_not dir) 0 1 c

omit [FloatOps F] in
theorem creds (c : Dev nD) : (Pipeline.launchCred O₀ c : sProp 𝕄)
    ⊢ iprop(cred (tallyAt (bC c) 0 2) ∗ (vCreds true c 0 ∗ cCreds true c 0) ∗ (vCreds false c 0 ∗ cCreds false c 0)) := by
  unfold O₀ ow
  rw [Pipeline.launchCred_add, Pipeline.launchCred_add, Pipeline.launchCred_add, Pipeline.launchCred_add, Pipeline.launchCred_add]
  iintro ⟨⟨⟨⟨H1, H2⟩, H3, H4⟩, H5⟩, H6⟩
  ihave H1 := (creds_S (F := F) true c) $$ H1
  ihave H2 := (creds_S (F := F) false c) $$ H2
  ihave H3 := (creds_C (F := F) true c) $$ H3
  ihave H4 := (creds_C (F := F) false c) $$ H4
  ihave H5 := (creds_B (F := F) false c) $$ H5
  ihave H6 := (creds_B (F := F) true c) $$ H6
  isplitl [H5 H6]
  · iapply (show iprop(cred (tallyAt (bC c) 0 1) ∗ cred (tallyAt (bC c) 0 1)) ⊢ (cred (tallyAt (bC c) 0 2) : sProp 𝕄) from
      (cred_add _ _).2.trans (Entails.of_eq (congrArg cred (tallyAt_add (bC c) 0 1 1))))
    isplitl [H5] <;> iassumption
  isplitl [H1 H3]
  · isplitl [H1] <;> iassumption
  isplitl [H2] <;> iassumption

/-! ## The start of the body -/

/-- What a device's body starts from, but its buffers. -/
def start (c : Dev nD) : sProp 𝕄 :=
  iprop(G' wt c ∗ (cred (tallyAt (bC c) 0 2) ∗ (vCreds true c 0 ∗ cCreds true c 0) ∗ (vCreds false c 0 ∗ cCreds false c 0)) ∗ levAts L lv)

variable (K : Dev nD × Fin 11 → ℕ) (KI : Key → ℕ)

/-- A direction's start. -/
theorem stI_intro (dir : Bool) (c : Dev nD) :
    iprop(Env wt K KI ∗ (atPos ER (cC dir c) 0 ∅ 0 ∗ atPos ER (sC dir 0 c) 0 ∅ 0 ∗ atPos ER (sC dir 1 c) 0 ∅ 0 ∗ atPos ER (vC dir 0 c) 0 ∅ 0 ∗ atPos ER (vC dir 1 c) 0 ∅ 0)
        ∗ lin dir c ∗ (vCreds dir c 0 ∗ cCreds dir c 0) ∗ (∃ f, bufP (F := F) dir c f))
      ⊢ stI c dir := by
  unfold stI lin rd0 pos2 got
  iintro ⟨#HE, ⟨Hc, Hs0, Hs1, Hv0, Hv1⟩, ⟨HtS, HtC, HtB, Hr0, Hr1⟩, ⟨HvC, HcC⟩, Hb⟩
  isplitl [Hs0 Hs1]
  · isplitl [Hs0]; · iexact Hs0
    isplitr; · (iapply (env_snd0 wt K KI c dir (0 : Fin 2)); iexact HE)
    isplitl [Hs1]; · iexact Hs1
    iapply (env_snd0 wt K KI c dir (1 : Fin 2)); iexact HE
  isplitl [Hv0 Hv1]
  · isplitl [Hv1]; · iexact Hv1
    isplitr; · (iapply (env_rcv0 wt K KI c dir (1 : Fin 2)); iexact HE)
    isplitl [Hv0]; · iexact Hv0
    iapply (env_rcv0 wt K KI c dir (0 : Fin 2)); iexact HE
  isplitl [Hr0]; · iexact Hr0
  isplitl [Hr1]; · iexact Hr1
  isplitl [Hc]
  · iexists ∅
    isplitl [Hc]; · iexact Hc
    rw [bigSep_empty]; iempintro
  isplitl [HtS]; · iexact HtS
  isplitl [HtC]; · iexact HtC
  isplitl [HvC]; · iexact HvC
  isplitl [HcC]; · iexact HcC
  isplitl [HtB]; · iexact HtB
  iexact Hb

/-- The start and the two buffers are what the program asks for. -/
theorem start_elim (c : Dev nD) :
    iprop(start wt c ∗ (∃ f, bufP (F := F) true c f) ∗ (∃ f, bufP (F := F) false c f))
      ⊢ iprop(∃ K KI, Env wt K KI ∗ stI c true ∗ stI c false ∗ (atPos ER (bC c) 0 ∅ 0 ∗ cred (tallyAt (bC c) 0 2))) := by
  unfold start G' mine records slotsI
  rw [bigSep_cells c fun g => atPos ER g 0 ∅ 0]
  iintro ⟨⟨⟨%K, ⟨#HI, #HR⟩, ⟨H0, H1, H2, H3, H4, H5, H6, H7, H8, H9, HB⟩, ⟨%KI, #HS⟩, HlT, HlF⟩, ⟨HcB, HcT, HcF⟩, #Hlev⟩, HbT, HbF⟩
  ihave #HE : Env wt K KI $$ []
  · unfold Env
    isplitr; · iexact HI
    isplitr; · iexact HS
    isplitr; · iexact HR
    iexact Hlev
  iexists K; iexists KI
  isplitr; · iexact HE
  isplitl [H0 H2 H3 H4 H5 HlT HcT HbT]
  · iapply (stI_intro wt K KI true c)
    isplitr; · iexact HE
    isplitl [H0 H2 H3 H4 H5]
    · isplitl [H0]; · iexact H0
      isplitl [H2]; · iexact H2
      isplitl [H3]; · iexact H3
      isplitl [H4] <;> iassumption
    isplitl [HlT]; · iexact HlT
    isplitl [HcT] <;> iassumption
  isplitl [H1 H6 H7 H8 H9 HlF HcF HbF]
  · iapply (stI_intro wt K KI false c)
    isplitr; · iexact HE
    isplitl [H1 H6 H7 H8 H9]
    · isplitl [H1]; · iexact H1
      isplitl [H6]; · iexact H6
      isplitl [H7]; · iexact H7
      isplitl [H8] <;> iassumption
    isplitl [HlF]; · iexact HlF
    isplitl [HcF] <;> iassumption
  isplitl [HB] <;> iassumption

end Cert.Ring

end
-- ==== Proof.Body.lean ====
/-
The printed body is the loop of rounds.
-/
module

public import proofs.«01_k».proof.Proof.Prog

@[expose] public section

noncomputable section

namespace Cert.Ring

open Cert.KernelIdeal Cert.KernelIdeal.Gen
open Idealize.ShloMosaic
open Idealize.SL Idealize.SL.Sem

variable {F : FTy → Type} [FloatOps F]

set_option maxRecDepth 100000 in
set_option maxHeartbeats 0 in
/-- The printed body, on its staging buffers and scratch, is `prog`. -/
theorem body_eq :
    cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7 = prog := rfl

end Cert.Ring

end
-- ==== Proof.Run.lean ====
/-
The run of the kernel on every device, for any float values.
-/
module

public import proofs.«01_k».proof.Proof.Fund
public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.CollectiveSegs
public import Idealize.ShloMosaic.Lib.Pipeline.Kit

@[expose] public section

set_option maxRecDepth 8000

noncomputable section

namespace Cert.Ring

open Cert.KernelIdeal Cert.KernelIdeal.Gen
open Idealize Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-- The launch memory: every counter zero. -/
def s₀ : MemSt nD τ sig (Elt F) := ⟨m, fun _ => 0, ρ⟩

/-! ## The staged operands and the result -/

def xI (c : Dev nD) : Vec F S1024x256 .f32 := (win0_0.blk (0 : Fin 1)).view.read (Elt F) ((s₀ m ρ).mem ((c : Thread nD τ).loc main_arg0))
def rwI (c : Dev nD) : Vec F S256x128 .f32 := (win0_1.blk (0 : Fin 1)).view.read (Elt F) ((s₀ m ρ).mem ((c : Thread nD τ).loc main_arg1))
def idxI (c : Dev nD) : Vec F S1024x1 .i32 := (win0_2.blk (0 : Fin 1)).view.read (Elt F) ((s₀ m ρ).mem ((c : Thread nD τ).loc main_arg2))
def ewI (c : Dev nD) : Vec F S4x256x512 .f32 := (win0_3.blk (0 : Fin 1)).view.read (Elt F) ((s₀ m ρ).mem ((c : Thread nD τ).loc main_arg3))
def swI (c : Dev nD) : Vec F S256x512 .f32 := (win0_4.blk (0 : Fin 1)).view.read (Elt F) ((s₀ m ρ).mem ((c : Thread nD τ).loc main_arg4))
/-- What device `c` computes. -/
def outI (c : Dev nD) : Vec F S1024x512 .f32 := outV (ewI m ρ) c (xI m ρ c) (rwI m ρ c) (idxI m ρ c) (swI m ρ c)

/-! ## The pipeline's data -/

def t₀ : Fin cfg0.N := ⟨0, by decide⟩
theorem fin_N (t : Fin cfg0.N) : t = t₀ := by
  obtain ⟨t, ht⟩ := t
  have h : cfg0.N = 1 := by decide
  exact Fin.ext (by simp only [t₀]; omega)

def Φ₀ (c : Dev nD) : sProp 𝕄 := iprop(start (ewI m ρ) c ∗ (∃ f, bufP (F := F) true c f) ∗ (∃ f, bufP (F := F) false c f))
def Φ₁ (c : Dev nD) : sProp 𝕄 := iprop(semVal (bC c) 0 ∗ stE (F := F) c true ∗ stE (F := F) c false)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xI m ρ c
    | ⟨1, _⟩ => rwI m ρ c
    | ⟨2, _⟩ => idxI m ρ c
    | ⟨3, _⟩ => ewI m ρ c
    | ⟨4, _⟩ => swI m ρ c
    | ⟨5, _⟩ => outI m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The body -/

/-- A staging buffer's contents, whole. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_whole_eq (c : Dev nD) (b : Ref sig .tc) (X : b.ty.Contents (Elt F)) :
    (owns (c : Thread nD τ) (Memref.whole b) fullShare X : sProp 𝕄) = stg c b X := by
  unfold owns; simp only [Memref.view_whole, View.read_whole, View.set_whole]

def bodyPre (c : Dev nD) : sProp 𝕄 :=
  iprop(Φ₀ m ρ c ∗ (dats m ρ 0 c).owesAt 0 t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ c ∗ (dats m ρ 0 c).owesAt 0 t₀.succ ∗ stg c cc0_stg0_0 (xI m ρ c) ∗ stg c cc0_stg1_0 (rwI m ρ c) ∗ stg c cc0_stg2_0 (idxI m ρ c)
    ∗ stg c cc0_stg3_0 (ewI m ρ c) ∗ stg c cc0_stg4_0 (swI m ρ c) ∗ stg c cc0_stg5_0 (outI m ρ c))

theorem before_0 (c : Dev nD) (d) : (dats m ρ 0 c).before (0 : Fin 6) t₀ d = xI m ρ c := by unfold Dat.before; rw [if_pos (fetch0_0 t₀)]; rfl
theorem before_1 (c : Dev nD) (d) : (dats m ρ 0 c).before (1 : Fin 6) t₀ d = rwI m ρ c := by unfold Dat.before; rw [if_pos (fetch0_1 t₀)]; rfl
theorem before_2 (c : Dev nD) (d) : (dats m ρ 0 c).before (2 : Fin 6) t₀ d = idxI m ρ c := by unfold Dat.before; rw [if_pos (fetch0_2 t₀)]; rfl
theorem before_3 (c : Dev nD) (d) : (dats m ρ 0 c).before (3 : Fin 6) t₀ d = ewI m ρ c := by unfold Dat.before; rw [if_pos (fetch0_3 t₀)]; rfl
theorem before_4 (c : Dev nD) (d) : (dats m ρ 0 c).before (4 : Fin 6) t₀ d = swI m ρ c := by unfold Dat.before; rw [if_pos (fetch0_4 t₀)]; rfl

/-- The program's run, from the pipeline's hand-over to its return. -/
theorem sound_prog (c : Dev nD) :
    bodyPre m ρ c ⊢ run c prog (fun _ => bodyPost m ρ c) := by
  unfold bodyPre Φ₀ Dat.owesAt Pipeline.owesWithin
  iintro ⟨HΦ, ⟨%W, %hW, HO⟩, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  rw [before_0] at h0; rw [before_1] at h1; rw [before_2] at h2; rw [before_3] at h3; rw [before_4] at h4
  subst h0 h1 h2 h3 h4
  rw [show (dats m ρ 0 c).owed t₀.castSucc = O₀ c from rfl]
  ihave HS := (start_elim (ewI m ρ) c) $$ HΦ
  icases HS with ⟨%K, %KI, HE, HT, HF, HB⟩
  iapply (wp_prog (ewI m ρ) K KI c (xI m ρ c) (rwI m ρ c) (idxI m ρ c) (swI m ρ c) g5) $$ [HE HT HF HB H0 H1 H2 H3 H4 H5 HO]
  · isplitl [HE]; · iexact HE
    isplitl [HT]; · iexact HT
    isplitl [HF]; · iexact HF
    isplitl [HB]; · iexact HB
    isplitl [H3]; · iexact H3
    isplitl [HO]; · (unfold ows; iexists W; iexact HO)
    isplitl [H0 H1 H2 H4]
    · unfold insP
      isplitl [H0]; · iexact H0
      isplitl [H1]; · iexact H1
      isplitl [H2]; · iexact H2
      iexact H4
    iexact H5
  unfold insP ows
  iintro ⟨HB, HT, HF, H3, ⟨%W', HO⟩, ⟨H0, H1, H2, H4⟩, H5⟩
  unfold bodyPost Φ₁ Dat.owesAt Pipeline.owesWithin
  rw [show (dats m ρ 0 c).owed t₀.succ = 0 from rfl]
  isplitl [HB HT HF]
  · isplitl [HB]; · iexact HB
    isplitl [HT] <;> iassumption
  isplitl [HO]
  · iexists W'
    isplitr; · (ipureintro; exact fun _ _ => Or.inl trivial)
    iexact HO
  isplitl [H0]; · (iexists _; isplitr; · (ipureintro; rfl)
                   iexact H0)
  isplitl [H1]; · (iexists _; isplitr; · (ipureintro; rfl)
                   iexact H1)
  isplitl [H2]; · (iexists _; isplitr; · (ipureintro; rfl)
                   iexact H2)
  isplitl [H3]; · (iexists _; isplitr; · (ipureintro; rfl)
                   iexact H3)
  isplitl [H4]; · (iexists _; isplitr; · (ipureintro; rfl)
                   iexact H4)
  iexists _; isplitr; · (ipureintro; rfl)
  iexact H5

set_option maxRecDepth 100000 in
theorem body_obligation (c : Dev nD) : BodyObligation (dats (F := F) m ρ 0 c) (defs₀ (F := F)) 𝒱₀ 0 Set.univ := fun t => by
  rw [fin_N t]
  rw [bigSep_W0, bigSep_W0]
  simp only [owns_whole_eq]
  show bodyPre m ρ c ⊢ wp frame (wpE (defs₀ (F := F)) 𝒱₀ c none) Set.univ
    (cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7) (fun _ => bodyPost m ρ c)
  rw [body_eq]
  exact sound_prog m ρ c

/-! ## The launch theorem's side conditions -/

theorem ownSemFacts : Pipeline.OwnSemFacts cfg0.spec osem' := by decide
theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (ewI m ρ) c)
      ⊢ |={Set.univ}=> iprop(start (ewI m ρ) c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start (ewI m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, HT, HF⟩
  isplitl [Hs]; · iexact Hs
  isplitl [HT]; · iexact HT
  iexact HF

theorem phi1_exit (c : Dev nD) :
    (dats m ρ 0 c).Φ (Fin.last cfg0.N) ⊢ iprop(unscopedSems0 c ∗ Pipeline.ownSems0 osem' c ∗ Pipeline.scopedRest cfg0.spec c) := by
  rw [show (dats m ρ 0 c).Φ (Fin.last cfg0.N) = Φ₁ c from rfl, scopedRest0_eq, ownSems0_eq, unscopedSems0_eq]
  unfold Φ₁ stE
  iintro ⟨HB, ⟨A0, A1, A2, A3, A4, AB⟩, ⟨B0, B1, B2, B3, B4, BB⟩⟩
  isplitl [HB]; · iexact HB
  isplitl [A0 A1 A2 A3 A4 B0 B1 B2 B3 B4]
  · isplitl [A4]; · iexact A4
    isplitl [B4]; · iexact B4
    isplitl [A0]; · iexact A0
    isplitl [A1]; · iexact A1
    isplitl [A2]; · iexact A2
    isplitl [A3]; · iexact A3
    isplitl [B0]; · iexact B0
    isplitl [B1]; · iexact B1
    isplitl [B2]; · iexact B2
    iexact B3
  isplitl [AB]; · iexact AB
  iexact BB

theorem mayWait_stage (c : Dev nD) (q : DmaSem sig) (hq : kind (.dma q) = .oth) (O : CellTallies nD τ sig ℕ) (hO : O = O₀ c ∨ O = 0) :
    (levAts L lv : sProp 𝕄) ⊢ MayWait (c : Thread nD τ) (.dma q) 0 O := by
  have h0 : lv ((c : Thread nD τ), .dma q) 0 = 0 := by
    unfold lv; rw [show kind ((c : Thread nD τ), (SemLoc.dma q : SemLoc sig)).2 = .oth from hq]
  refine mayWait c (.dma q) 0 (by decide) ?_
  rw [h0]
  rcases hO with rfl | rfl
  · exact hi_O₀ c
  · exact Hi.zero _

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Every fair run of the mesh of thirty-two devices ends, with every array as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (ewI m ρ)) (G' := G' (ewI m ρ)) (u₀ := u₀)
    (hu₀ := by
      unfold u₀
      iintro Hu
      ihave H := (ownU_pair _ _) $$ Hu
      icases H with ⟨HP, HX⟩
      imod (fund_ring (ewI m ρ)) $$ HX with HG
      imodintro
      isplitl [HP] <;> iassumption)
    (hglob := glob (ewI m ρ))
    (hA := fun _ _ => rfl) (hpf := fun _ k => k.elim0)
    (X := start (ewI m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands are as they were. -/
theorem finalA_in (c : Dev nD) (w : Fin cfg0.W) (hw : (cfg0.win w).isOut = false) : finalA m ρ c w = m ((cfg0.win w).arr.view.loc (c : Thread nD τ)) :=
  (dats (F := F) m ρ 0 c).arrAt_in w hw _

end Cert.Ring

end
-- ==== Proof.Frames.lean ====
/-
The frames of the kernel, as printed and as read over the reals: one run serves both.
-/
module

public import proofs.«01_k».proof.Defs
public import proofs.«01_k».proof.Proof.Run
public import proofs.«01_k».proof.Proof.Gen.Kernel

@[expose] public section

set_option maxRecDepth 8000

noncomputable section

namespace Cert.Ring

open Cert.KernelIdeal Cert.KernelIdeal.Gen
open Idealize.ShloMosaic Idealize.SL.Sem
open Idealize.ShloMosaic.TcCoe

variable {F : FTy → Type} [FloatOps F] (m : (ℓ : Loc nD τ sig) → Buf (Elt F) ℓ) (ρ : Dev nD → PrngReg)

/-- After the run every operand is as it was. -/
theorem kept {r : PUnit × MemSt nD τ sig (Elt F)} (h : QC m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨(h c 0).trans (finalA_in m ρ c 0 rfl), (h c 1).trans (finalA_in m ρ c 1 rfl), (h c 2).trans (finalA_in m ρ c 2 rfl),
    (h c 3).trans (finalA_in m ρ c 3 rfl), (h c 4).trans (finalA_in m ρ c 4 rfl)⟩

/-- The run keeps the operands and ends with every counter at zero, for any float values. -/
theorem run_kept : θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨kept m ρ h.1, h.2⟩) (run_main m ρ)

/-- The kernel read over the reals leaves its operands and every counter at zero. -/
theorem frame_ideal : Cert.quiescent_KernelIdeal := fun m ρ _ => run_kept (F := Ideal) m ρ

set_option maxRecDepth 100000 in
/-- The two prints of the body are one. -/
theorem body_same : @Cert.Kernel.cc0_body Bits _ _ = @Cert.KernelIdeal.cc0_body Bits _ _ := rfl

/-- The two prints' kernels are one. -/
theorem defs₀_same : Cert.Kernel.defs₀ (F := Bits) = Cert.KernelIdeal.defs₀ (F := Bits) := by
  unfold Cert.Kernel.defs₀ Cert.KernelIdeal.defs₀
  rw [body_same]
  refine congrArg Defs.onTc ?_
  funext l x
  obtain ⟨n, hn⟩ := l
  cases n with
  | zero => obtain ⟨t, s⟩ := x; rfl
  | succ n => exact absurd hn (Nat.not_lt.2 (Nat.le_add_left _ _))

/-- The two prints' programs are one. -/
theorem defs_same : Cert.Kernel.defs (F := Bits) = Cert.KernelIdeal.defs (F := Bits) := by
  unfold Cert.Kernel.defs Cert.KernelIdeal.defs
  rw [defs₀_same]
  rfl

/-- The printed kernel leaves its operands and every counter at zero. -/
theorem frame_kernel : Cert.quiescent_Kernel := fun m ρ _ => by
  rw [defs_same]
  exact run_kept (F := Bits) m ρ

end Cert.Ring

end
-- ==== Proof.Spec.lean ====
/-
The layer's mathematics on one token, in extended reals: the router's scores, their softmax, the weight an expert gets,
and what one expert's product adds.
-/
module

public import proofs.«01_k».proof.Proof.Sched
public import Idealize.ShloMosaic.Lib.Pointwise

@[expose] public section

noncomputable section

namespace Cert.Ring

open Idealize Idealize.ShloMosaic
open scoped BigOperators

section Token

variable (x : Fin 256 → EReal) (rw : (⟨2, ![256, 128]⟩ : Shape).Idx → EReal)

/-- The token's score for expert `j`. -/
def score (j : Fin 128) : EReal := ∑ k : Fin 256, x k * rw (ix2 k j)

/-- The exponential of a score less the greatest score. -/
def expo (j : Fin 128) : EReal :=
  Ideal.exp (score x rw j - Finset.univ.fold max (Ideal.ofBits .f32 0xFF800000#32) (score x rw))

/-- The softmax of the scores at expert `j`. -/
def prob (j : Fin 128) : EReal := Ideal.div (expo x rw j) (∑ i : Fin 128, expo x rw i)

/-- The weight of expert `j` for a token routed to the expert of word `w`: the softmax there, zero elsewhere. -/
def gate (w : BitVec 32) (j : Fin 128) : EReal := if w = BitVec.ofNat 32 j.val then prob x rw j else 0

/-- What expert `j` adds at output column `h`, its weights being `W`. -/
def term (w : BitVec 32) (W : Fin 128 → Fin 256 → Fin 512 → EReal) (h : Fin 512) (j : Fin 128) : EReal :=
  ∑ k : Fin 256, x k * gate x rw w j * W j k h

/-- A select on an equality of words is an `if`. -/
theorem select_eq {α : Type} (a b : BitVec 32) (p q : α) :
    Scalar.select (IntOp.cmpi CmpIPredicate.eq a b) p q = if a = b then p else q := by
  by_cases e : a = b
  · subst e; rw [if_pos rfl]; simp [Scalar.select, IntOp.cmpi]
  · have h : (a == b) = false := by simpa using e
    rw [if_neg e]; simp [Scalar.select, IntOp.cmpi, h]

/-- Distinct experts have distinct words. -/
theorem ofNat_inj {i j : Fin 128} (e : BitVec.ofNat 32 i.val = BitVec.ofNat 32 j.val) : i = j := by
  have h := congrArg BitVec.toNat e
  simp only [BitVec.toNat_ofNat] at h
  exact Fin.ext (by have := i.isLt; have := j.isLt; omega)

/-- The softmax summed over the experts whose word is the token's, read where the token's word is `j`'s: the softmax at `j`. -/
theorem pick (w : BitVec 32) (j : Fin 128) :
    (if w = BitVec.ofNat 32 j.val then ∑ i : Fin 128, (if BitVec.ofNat 32 i.val = w then prob x rw i else 0) else 0) = gate x rw w j := by
  unfold gate
  by_cases e : w = BitVec.ofNat 32 j.val
  · rw [if_pos e, if_pos e, Finset.sum_eq_single j]
    · rw [if_pos e.symm]
    · intro i _ hi
      exact if_neg fun h => hi (ofNat_inj (h.trans e))
    · intro h; exact absurd (Finset.mem_univ j) h
  · rw [if_neg e, if_neg e]

end Token

/-! ## The experts of a device, and every device once -/

/-- Expert `e` of device `d`, among all. -/
def expertNo (d : Fin 32) (e : Fin 4) : Fin 128 := ⟨d.val * 4 + e.val, by have := d.isLt; have := e.isLt; omega⟩

/-- A sum over all the experts is the sum over the devices of the sums over their four. -/
theorem sum_experts (f : Fin 128 → EReal) : ∑ j : Fin 128, f j = ∑ d : Fin 32, ∑ e : Fin 4, f (expertNo d e) := by
  rw [← Fintype.sum_prod_type' (f := fun d e => f (expertNo d e)), ← (finProdFinEquiv (m := 32) (n := 4)).sum_comp f]
  refine Finset.sum_congr rfl fun p _ => congrArg f (Fin.ext ?_)
  show p.2.val + 4 * p.1.val = p.1.val * 4 + p.2.val
  omega

end Cert.Ring

end
-- ==== Proof.KVal.lean ====
/-
What the kernel's values are at a row and a column: device `c` adds to the shared product, for every device once, what
that device's four experts add.
-/
module

public import proofs.«01_k».proof.Proof.Spec
public import proofs.«01_k».proof.Proof.Ends

@[expose] public section

set_option maxRecDepth 16384

noncomputable section

namespace Cert.Ring

open Cert.KernelIdeal Cert.KernelIdeal.Gen
open Idealize Idealize.ShloMosaic
open scoped BigOperators

variable (x : FVec Ideal S1024x256 .f32) (rw : FVec Ideal S256x128 .f32) (idx : Vec Ideal S1024x1 .i32)

/-- A row of the tokens. -/
abbrev rowK (r : Fin 1024) : Fin 256 → EReal := fun k => x (ix2 r k)

/-- The weight of a token's own expert. -/
theorem pay7_at (r : Fin 1024) : k0_pay7 (F := Ideal) (k0_pay5 x rw) idx (ix1 r)
    = ∑ j : Fin 128, if BitVec.ofNat 32 j.val = idx (ix2 r 0) then prob (rowK x r) rw j else 0 := by
  pointwise [k0_pay7, k0_pay5, k0_pay4, k0_pay6]
  exact Finset.sum_congr rfl fun j _ => select_eq _ _ _ _

/-- The word of expert `e` of device `d`, as the kernel computes it. -/
theorem word_at (d : Fin 32) (e : Fin 4) :
    IntOp.addi (BitVec.ofNat 32 e.val) (Scalar.muli (BitVec.ofNat 32 d.val) 4#32) = BitVec.ofNat 32 (expertNo d e).val := by
  revert d e; decide +kernel

/-- The weights of device `d`'s experts for a token. -/
theorem sel_at (d : Fin 32) (r : Fin 1024) (e : Fin 4) :
    selV (F := Ideal) (k0_pay6 (F := Ideal) idx) (k0_pay7 (F := Ideal) (k0_pay5 x rw) idx) (BitVec.ofNat 32 d.val) (ix2 r e)
      = gate (rowK x r) rw (idx (ix2 r 0)) (expertNo d e) := by
  rw [← pick, ← pay7_at x rw idx r]
  generalize k0_pay7 (F := Ideal) (k0_pay5 x rw) idx = P
  pointwise [selV, k0_pay6]
  rw [word_at, select_eq]

/-- One expert's product. -/
theorem expert_at (sl : FVec Ideal S1024x4 .f32) (W : FVec Ideal S4x256x512 .f32) (e : Fin 4) (h1) (h2) (r : Fin 1024) (h : Fin 512) :
    expertV (F := Ideal) x sl W e h1 h2 (ix2 r h) = ∑ k : Fin 256, x (ix2 r k) * sl (ix2 r e) * W (ix3 e k h) := by
  pointwise [expertV]

/-- What the four experts of device `d`, of weights `W`, add. -/
def four (W : FVec Ideal S4x256x512 .f32) (d : Fin 32) (r : Fin 1024) (h : Fin 512) : EReal :=
  ∑ e : Fin 4, ∑ k : Fin 256, x (ix2 r k) * gate (rowK x r) rw (idx (ix2 r 0)) (expertNo d e) * W (ix3 e k h)

/-- What the kernel adds for a device is what its four experts add. -/
theorem contrib_at (W : FVec Ideal S4x256x512 .f32) (d : Fin 32) (r : Fin 1024) (h : Fin 512) :
    contribV (F := Ideal) x (k0_pay6 (F := Ideal) idx) (k0_pay7 (F := Ideal) (k0_pay5 x rw) idx) (BitVec.ofNat 32 d.val) W (ix2 r h)
      = four x rw idx W d r h := by
  show Ideal.ofBits .f32 0x00000000#32 + expertV (F := Ideal) x _ W 0 _ _ (ix2 r h) + expertV (F := Ideal) x _ W 1 _ _ (ix2 r h)
    + expertV (F := Ideal) x _ W 2 _ _ (ix2 r h) + expertV (F := Ideal) x _ W 3 _ _ (ix2 r h) = _
  rw [Ideal.ofBits_zero_f32, zero_add, four, Fin.sum_univ_four]
  simp only [expert_at, sel_at]

/-- The tokens as the program casts them are the tokens. -/
theorem pay4_eq : k0_pay4 (F := Ideal) x = x := funext fun i => congrArg x (Shape.reshapeEquiv_self _ i)

/-- The weights as the program casts them are the weights. -/
theorem cast_eq_self (W : FVec Ideal S4x256x512 .f32) : shapeCast S4x256x512 W shapeCasts_S4x256x512_S4x256x512 = W :=
  funext fun i => congrArg W (Shape.reshapeEquiv_self _ i)

/-- The shared product. -/
theorem pay8_at (sw : FVec Ideal S256x512 .f32) (r : Fin 1024) (h : Fin 512) :
    k0_pay8 (F := Ideal) x sw (ix2 r h) = ∑ k : Fin 256, x (ix2 r k) * sw (ix2 k h) := by
  pointwise [k0_pay8]

/-! ## The rounds -/

/-- This device's own word. -/
theorem word_eq : ∀ c : Fin 32, word c = BitVec.ofNat 32 c.val := by decide +kernel

/-- The word of the device whose weights arrive from the left. -/
theorem srcR_eq : ∀ (c : Fin 32) (h : Fin 16), srcV c true h.val = BitVec.ofNat 32 (org c true (h.val + 1)).val := by decide +kernel

/-- The word of the device whose weights arrive from the right. -/
theorem srcL_eq : ∀ (c : Fin 32) (h : Fin 16), srcV c false h.val = BitVec.ofNat 32 (org c false (h.val + 1)).val := by decide +kernel

/-- The word of the device whose weights arrive, either way. -/
theorem src_eq (c : Fin 32) (dir : Bool) (h : ℕ) (hh : h < 16) : srcV c dir h = BitVec.ofNat 32 (org c dir (h + 1)).val := by
  cases dir
  · exact srcL_eq c ⟨h, hh⟩
  · exact srcR_eq c ⟨h, hh⟩

variable (wt : Dev nD → FVec Ideal S4x256x512 .f32) (c : Dev nD)

/-- What device `d`'s experts add to a token of this one. -/
def dev (r : Fin 1024) (h : Fin 512) (d : Fin 32) : EReal := four x rw idx (wt d) d r h

/-- One round's addition. -/
theorem round_at (dir : Bool) (n : ℕ) (hn : n < 16) (f : Vec Ideal S1024x512 .f32) (r : Fin 1024) (h : Fin 512) :
    roundV (F := Ideal) wt c x (k0_pay6 (F := Ideal) idx) (k0_pay7 (F := Ideal) (k0_pay5 x rw) idx) dir n f (ix2 r h)
      = f (ix2 r h) + dev x rw idx wt r h (org c dir (n + 1)) := by
  unfold roundV
  rw [src_eq c dir n hn]
  show f (ix2 r h) + _ = _
  rw [contrib_at]
  rfl

/-- The steps from `n` on. -/
theorem steps_at (r : Fin 1024) (h : Fin 512) : ∀ (k n : ℕ) (hn : k + n ≤ 16) (f : Vec Ideal S1024x512 .f32),
    stepsV (F := Ideal) wt c x (k0_pay6 (F := Ideal) idx) (k0_pay7 (F := Ideal) (k0_pay5 x rw) idx) k n f (ix2 r h)
      = f (ix2 r h) + ∑ i ∈ Finset.range k, (dev x rw idx wt r h (org c true (n + i + 1)) + dev x rw idx wt r h (org c false (n + i + 1)))
  | 0, n, _, f => by rw [Finset.sum_range_zero, add_zero]; rfl
  | k + 1, n, hn, f => by
    unfold stepsV
    rw [steps_at r h k (n + 1) (by omega), round_at x rw idx wt c false n (by omega), round_at x rw idx wt c true n (by omega),
      Finset.sum_range_succ', add_assoc, add_assoc, add_comm (∑ i ∈ Finset.range k, _), ← add_assoc (dev x rw idx wt r h _)]
    simp only [Nat.add_zero, Nat.add_assoc, Nat.add_comm 1, Nat.add_left_comm 1]

/-- The home device's part. -/
theorem home_at (sw : FVec Ideal S256x512 .f32) (r : Fin 1024) (h : Fin 512) :
    homeV (F := Ideal) c x rw idx sw (wt c) (ix2 r h) = (∑ k : Fin 256, x (ix2 r k) * sw (ix2 k h)) + dev x rw idx wt r h c := by
  unfold homeV
  rw [pay4_eq, cast_eq_self, word_eq]
  show k0_pay8 (F := Ideal) x sw (ix2 r h) + _ = _
  rw [contrib_at, pay8_at]
  rfl

/-- Every device is met once: at home, sixteen times from the left and fifteen from the right. -/
theorem sum_devices (g : Fin 32 → EReal) (c : Fin 32) :
    g c + (∑ i ∈ Finset.range 14, (g (org c true (0 + i + 1)) + g (org c false (0 + i + 1)))) + g (org c true 15) + g (org c false 15) + g (org c true 16)
      = ∑ d : Fin 32, g d := by
  have key : ∀ i : ℕ, i ≤ 32 → org c true i = org c false (32 - i) := fun i hi => Fin.ext (by simp only [org]; omega)
  have all : ∑ d : Fin 32, g d = ∑ i ∈ Finset.range 32, g (org c false i) := by
    rw [← Equiv.sum_comp (Equiv.addLeft c) g, ← Fin.sum_univ_eq_sum_range (fun i => g (org c false i))]
    exact Finset.sum_congr rfl fun i _ => congrArg g (Fin.ext rfl)
  rw [all]
  simp only [Finset.sum_range_succ, Finset.sum_range_zero, zero_add, Nat.reduceAdd, org_zero]
  rw [key 1, key 2, key 3, key 4, key 5, key 6, key 7, key 8, key 9, key 10, key 11, key 12, key 13, key 14, key 15, key 16] <;> try omega
  simp only [Nat.reduceSub]
  ac_rfl

/-- What device `c` computes: the shared product and every device's experts. -/
theorem out_at (sw : FVec Ideal S256x512 .f32) (r : Fin 1024) (h : Fin 512) :
    outV (F := Ideal) wt c x rw idx sw (ix2 r h)
      = (∑ k : Fin 256, x (ix2 r k) * sw (ix2 k h)) + ∑ d : Fin 32, dev x rw idx wt r h d := by
  unfold outV
  rw [pay4_eq, round_at x rw idx wt c true 15 (by omega), round_at x rw idx wt c false 14 (by omega), round_at x rw idx wt c true 14 (by omega),
    steps_at x rw idx wt c r h 14 0 (by omega), home_at, ← sum_devices _ c]
  simp only [add_assoc]

end Cert.Ring

end
-- ==== Proof.RVal.lean ====
/-
What the reference's value is at a row and a column.
-/
module

public import proofs.«01_k».proof.Proof.Spec
public import proofs.«01_k».proof.Proof.Gen.ReferenceIdeal.Run

@[expose] public section

set_option maxRecDepth 16384

noncomputable section

namespace Cert.RefVal

open Cert.ReferenceIdeal Cert.ReferenceIdeal.Gen Cert.Ring
open Idealize Idealize.ShloMosaic
open scoped BigOperators

variable (x : FVec Ideal S32768x256 .f32) (rw : FVec Ideal S256x128 .f32) (idx : IVec S32768x1 32)
  (ew : FVec Ideal S128x256x512 .f32) (sw : FVec Ideal S256x512 .f32)

/-- The exponentials of the scores less the row's greatest. -/
def expR : FVec Ideal S32768x128 .f32 :=
  Host.exp (subf (Host.dotGeneral dot_S32768x256_S256x128_S32768x128_1_0_0_1_n_n none x rw) (broadcastInDim S32768x128 ![0, 1] bcast_S32768x1_S32768x128_0_1 (broadcastInDim S32768x1 ![0] bcast_S32768_S32768x1_0 (Host.reduce FloatOps.maximumf (Host.dotGeneral dot_S32768x256_S256x128_S32768x128_1_0_0_1_n_n none x rw) (constant S_ .f32 0xFF800000#32) reducesTo_S32768x128_S32768_d1 h_S_))))

/-- The weights: the softmax where the expert is the token's, zero elsewhere. -/
def weightR : FVec Ideal S32768x128 .f32 :=
  select (cmpi .eq (broadcastInDim S32768x128 ![0, 1] bcast_S32768x1_S32768x128_0_1 idx) (broadcastInDim S32768x128 ![0, 1] bcast_S1x128_S32768x128_0_1 (broadcastInDim S1x128 ![1] bcast_S128_S1x128_1 (iotaInDim S128 32 0)))) (Host.divf (expR x rw) (broadcastInDim S32768x128 ![0, 1] bcast_S32768x1_S32768x128_0_1 (broadcastInDim S32768x1 ![0] bcast_S32768_S32768x1_0 (Host.reduceAdd (expR x rw) (constant S_ .f32 0x00000000#32) reducesTo_S32768x128_S32768_d1 h_S_)))) (broadcastInDim S32768x128 ![] bcast_S_S32768x128 (id (constant S_ .f32 0x00000000#32)))

/-- The reference's value. -/
def outR : FVec Ideal S32768x512 .f32 :=
  addf (Host.dotGeneral dot_S32768x256_S256x512_S32768x512_1_0_0_1_n_n none x sw) (Host.dotGeneral dot_S32768x128x256_S128x256x512_S32768x512_21_10_0_2_n_n none (mulf (broadcastInDim S32768x128x256 ![0, 1, 2] bcast_S32768x128x1_S32768x128x256_0_1_2 (broadcastInDim S32768x128x1 ![0, 1] bcast_S32768x128_S32768x128x1_0_1 (weightR x rw idx))) (broadcastInDim S32768x128x256 ![0, 1, 2] bcast_S32768x1x256_S32768x128x256_0_1_2 (broadcastInDim S32768x1x256 ![0, 2] bcast_S32768x256_S32768x1x256_0_2 x))) ew)

/-- A row of the tokens. -/
abbrev rowR (r : Fin 32768) : Fin 256 → EReal := fun k => x (ix2 r k)

/-- The exponentials at a row and an expert. -/
theorem exp_at (r : Fin 32768) (j : Fin 128) : expR x rw (ix2 r j) = expo (rowR x r) rw j := by
  pointwise [expR]
  rfl

/-- The weights at a row and an expert. -/
theorem weight_at (r : Fin 32768) (j : Fin 128) : weightR x rw idx (ix2 r j) = gate (rowR x r) rw (idx (ix2 r 0)) j := by
  pointwise [weightR]
  rw [select_eq]
  simp only [exp_at]
  show (if _ then _ else Ideal.ofBits .f32 0x00000000#32) = _
  rw [Ideal.ofBits_zero_f32]
  rfl

/-- The reference at a row and a column: the shared product and every expert's term. -/
theorem outR_at (r : Fin 32768) (h : Fin 512) :
    outR x rw idx ew sw (ix2 r h) = (∑ k : Fin 256, x (ix2 r k) * sw (ix2 k h))
      + ∑ j : Fin 128, term (rowR x r) rw (idx (ix2 r 0)) (fun j k h => ew (ix3 j k h)) h j := by
  have hw := weight_at x rw idx r
  unfold outR
  generalize weightR x rw idx = g at hw
  pointwise []
  simp only [hw]
  rw [Finset.sum_comm]
  refine congrArg _ (Finset.sum_congr rfl fun j _ => Finset.sum_congr rfl fun k _ => ?_)
  rw [mul_comm (gate _ _ _ _)]

/-- The reference's run: its result is `outR` of its operands, which it leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = outR (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ

end Cert.RefVal

end
-- ==== Proof.Equal.lean ====
/-
The kernel and the reference compute one function over the extended reals.
-/
module

public import proofs.«01_k».proof.Defs
public import proofs.«01_k».proof.Proof.Frames
public import proofs.«01_k».proof.Proof.KVal
public import proofs.«01_k».proof.Proof.RVal
public import Idealize.ShloMosaic.Lib.Layout

@[expose] public section

set_option maxRecDepth 8000

noncomputable section

namespace Cert.Ring

open Cert.KernelIdeal Cert.KernelIdeal.Gen
open Idealize Idealize.ShloMosaic
open Idealize.ShloMosaic.TcCoe
open Idealize.SL.Sem
open scoped BigOperators

/-! ## Whole windows -/

section Windows

variable {F : FTy → Type} [FloatOps F]
variable (m : (ℓ : Loc nD τ sig) → Buf (Elt F) ℓ) (ρ : Dev nD → PrngReg) (c : Dev nD)

/-- A window over a whole array reads the array. -/
theorem read_win (b : Ref sig .tc) {off : Fin b.ty.shape.rank → ℕ} (h : ∀ a, off a = 0) (inb) (f : b.ty.Contents (Elt F)) :
    ((Memref.whole b).access (Rect.unit off b.ty.shape.size inb) : View sig .tc _ _ _).read (Elt F) f = f :=
  Memref.read_access_unit_zero (Elt F) b (funext h) inb f

/-- The staged tokens are the device's tokens. -/
theorem xI_eq : xI m ρ c = m ((c : Thread nD τ).loc main_arg0) := read_win main_arg0 (by decide) _ _
/-- The staged router's weights are the device's. -/
theorem rwI_eq : rwI m ρ c = m ((c : Thread nD τ).loc main_arg1) := read_win main_arg1 (by decide) _ _
/-- The staged routes are the device's. -/
theorem idxI_eq : idxI m ρ c = m ((c : Thread nD τ).loc main_arg2) := read_win main_arg2 (by decide) _ _
/-- The staged experts are the device's. -/
theorem ewI_eq : ewI m ρ c = m ((c : Thread nD τ).loc main_arg3) := read_win main_arg3 (by decide) _ _
/-- The staged shared weights are the device's. -/
theorem swI_eq : swI m ρ c = m ((c : Thread nD τ).loc main_arg4) := read_win main_arg4 (by decide) _ _

/-- The result array ends holding what the device computed. -/
theorem finalA_out : finalA m ρ c (5 : Fin 6) = outI m ρ c := by
  have h : (win0_5.blk (0 : Fin 1)).view.read (Elt F) (finalA m ρ c (5 : Fin 6)) = outI m ρ c := by
    unfold finalA
    rw [show cfg0.N = ((0 : Fin 1) : Fin cfg0.N).val + 1 from rfl, (dats m ρ 0 c).arrAt_succ (5 : Fin 6) (0 : Fin 1),
      show (cfg0.win (5 : Fin 6)).flush (0 : Fin 1) = true from flush0_5 _, if_pos rfl]
    exact View.read_write_univ _ _
  exact (read_win main_v1 (by decide) _ _).symm.trans h

end Windows

/-! ## A block of the reference's result -/

section Blocks

variable (X : (⟨2, ![32768, 256]⟩ : Shape).Idx → EReal) (RW : (⟨2, ![256, 128]⟩ : Shape).Idx → EReal)
  (I : (⟨2, ![32768, 1]⟩ : Shape).Idx → BitVec 32) (EW : (⟨3, ![128, 256, 512]⟩ : Shape).Idx → EReal)
  (SW : (⟨2, ![256, 512]⟩ : Shape).Idx → EReal)

/-- Row `r` of device `c`'s block, in the whole array. -/
def rowOf (c : Fin 32) (r : Fin 1024) : Fin 32768 := ⟨c.val * 1024 + r.val, by have := c.isLt; have := r.isLt; omega⟩

/-- The device's tokens are rows of the whole array. -/
theorem block_x (c : Fin 32) (r : Fin 1024) (k : Fin 256) :
    Layout.block ⟨2, ![1024, 256]⟩ ⟨2, ![32768, 256]⟩ 0 32 c X (by decide) (ix2 r k) = X (ix2 (rowOf c r) k) :=
  congrArg X (funext fun a => Fin.ext (by rcases a with ⟨_ | _ | n, ha⟩ <;> first | rfl | exact absurd ha (by simp)))

/-- The device's routes are rows of the whole array. -/
theorem block_idx (c : Fin 32) (r : Fin 1024) :
    Layout.block ⟨2, ![1024, 1]⟩ ⟨2, ![32768, 1]⟩ 0 32 c I (by decide) (ix2 r 0) = I (ix2 (rowOf c r) 0) :=
  congrArg I (funext fun a => Fin.ext (by rcases a with ⟨_ | _ | n, ha⟩ <;> first | rfl | exact absurd ha (by simp)))

/-- The device's experts are four of the whole array. -/
theorem block_ew (d : Fin 32) (e : Fin 4) (k : Fin 256) (h : Fin 512) :
    Layout.block ⟨3, ![4, 256, 512]⟩ ⟨3, ![128, 256, 512]⟩ 0 32 d EW (by decide) (ix3 e k h) = EW (ix3 (expertNo d e) k h) :=
  congrArg EW (funext fun a => Fin.ext (by rcases a with ⟨_ | _ | _ | n, ha⟩ <;> first | rfl | exact absurd ha (by simp)))

/-- The reference's result at a row of device `c`'s block. -/
theorem block_out (V : (⟨2, ![32768, 512]⟩ : Shape).Idx → EReal) (c : Fin 32) (r : Fin 1024) (h : Fin 512) :
    Layout.block ⟨2, ![1024, 512]⟩ ⟨2, ![32768, 512]⟩ 0 32 c V (by decide) (ix2 r h) = V (ix2 (rowOf c r) h) :=
  congrArg V (funext fun a => Fin.ext (by rcases a with ⟨_ | _ | n, ha⟩ <;> first | rfl | exact absurd ha (by simp)))

/-- What device `c` computes of its blocks is its block of the reference's result. -/
theorem bridge (c : Fin 32) :
    outV (F := Ideal) (fun d => Layout.block ⟨3, ![4, 256, 512]⟩ ⟨3, ![128, 256, 512]⟩ 0 32 d EW (by decide)) c
        (Layout.block ⟨2, ![1024, 256]⟩ ⟨2, ![32768, 256]⟩ 0 32 c X (by decide)) RW
        (Layout.block ⟨2, ![1024, 1]⟩ ⟨2, ![32768, 1]⟩ 0 32 c I (by decide)) SW
      = Layout.block ⟨2, ![1024, 512]⟩ ⟨2, ![32768, 512]⟩ 0 32 c (RefVal.outR X RW I EW SW) (by decide) := by
  funext i
  obtain ⟨r, h, rfl⟩ : ∃ (r : Fin 1024) (h : Fin 512), i = ix2 r h := ⟨i 0, i 1, eq_ix2 i⟩
  rw [block_out, RefVal.outR_at, out_at, sum_experts]
  have row : rowK (Layout.block ⟨2, ![1024, 256]⟩ ⟨2, ![32768, 256]⟩ 0 32 c X (by decide)) r = RefVal.rowR X (rowOf c r) :=
    funext fun k => block_x X c r k
  simp only [dev, four, term, row, block_x, block_idx, block_ew]

end Blocks

/-- The kernel on its devices and the reference on one compute the same function over the extended reals. -/
theorem algebraic : Cert.algebraic_KernelIdeal_ReferenceIdeal := by
  intro m g m' g' _ hagree
  refine ⟨RefVal.outR (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  · refine (θ_run defs _ _).mono (fun r h c => ⟨?_, kept m g h.1 c⟩) (run_main (F := Ideal) m g)
    refine ((h.1 c (5 : Fin 6)).trans (finalA_out m g c)).trans ?_
    have hw : ewI m g = fun d => Layout.block ⟨3, ![4, 256, 512]⟩ ⟨3, ![128, 256, 512]⟩ 0 32 d
        (m' (((0 : Dev Cert.ReferenceIdeal.nD).tc : Thread Cert.ReferenceIdeal.nD Cert.ReferenceIdeal.τ).loc Cert.ReferenceIdeal.main_arg3)) (by decide) :=
      funext fun d => (ewI_eq m g d).trans (hagree d).2.2.2.1
    unfold outI
    rw [hw, xI_eq, rwI_eq, idxI_eq, swI_eq, (hagree c).1, (hagree c).2.1, (hagree c).2.2.1, (hagree c).2.2.2.2]
    exact bridge _ _ _ _ _ c
  · exact (θ_run Cert.ReferenceIdeal.defs _ _).mono (fun _ h => h 0) (RefVal.run m' g')

end Cert.Ring

end
-- ==== Proof.Finite.lean ====
/-
Where the tokens and the router's weights are finite, the softmax is a nonnegative real, so an expert's weight may be
taken out of its product.
-/
module

public import proofs.«01_k».proof.Proof.Spec

@[expose] public section

noncomputable section

namespace Cert.Ring

open Idealize Idealize.ShloMosaic
open scoped BigOperators

/-- A factor that is nonnegative and not infinite multiplies a sum term by term. -/
theorem mul_sum_real {ι : Type} (s : Finset ι) (g : EReal) (h0 : 0 ≤ g) (ht : g ≠ ⊤) (f : ι → EReal) :
    g * ∑ k ∈ s, f k = ∑ k ∈ s, g * f k := by
  classical
  induction s using Finset.induction_on with
  | empty => simp
  | insert a s ha ih => rw [Finset.sum_insert ha, Finset.sum_insert ha, EReal.left_distrib_of_nonneg_of_ne_top h0 ht, ih]

/-- A sum of reals is a real. -/
theorem sum_real {ι : Type} (s : Finset ι) (f : ι → EReal) (h : ∀ k, ∃ a : ℝ, f k = a) : ∃ a : ℝ, ∑ k ∈ s, f k = a := by
  classical
  induction s using Finset.induction_on with
  | empty => exact ⟨0, by simp⟩
  | insert b s hb ih =>
    obtain ⟨p, hp⟩ := h b
    obtain ⟨q, hq⟩ := ih
    exact ⟨p + q, by rw [Finset.sum_insert hb, hp, hq, EReal.coe_add]⟩

/-- A sum of positive reals over the experts is a positive real. -/
theorem sum_pos_real (f : Fin 128 → EReal) (h : ∀ k, ∃ a : ℝ, 0 < a ∧ f k = a) : ∃ a : ℝ, 0 < a ∧ ∑ k, f k = a := by
  obtain ⟨b, hb⟩ := sum_real (Finset.univ.erase (0 : Fin 128)) f fun k => (h k).imp fun _ => And.right
  have hn : 0 ≤ b := by
    have : (0 : EReal) ≤ (b : EReal) := hb ▸ Finset.sum_nonneg fun k _ => by
      obtain ⟨a, ha, e⟩ := h k
      rw [e]; exact EReal.coe_nonneg.mpr ha.le
    exact EReal.coe_nonneg.mp this
  obtain ⟨a, ha, e⟩ := h 0
  refine ⟨a + b, by linarith, ?_⟩
  rw [← Finset.add_sum_erase Finset.univ f (Finset.mem_univ (0 : Fin 128)), e, hb, EReal.coe_add]

/-- The greatest of finitely many reals, from minus infinity, is a real. -/
theorem max_real (s : Fin 128 → EReal) (h : ∀ j, ∃ a : ℝ, s j = a) :
    ∃ a : ℝ, Finset.univ.fold max (Ideal.ofBits .f32 0xFF800000#32) s = a := by
  have e : Ideal.ofBits .f32 0xFF800000#32 = ⊥ := by
    simp [Ideal.ofBits, Ideal.ieee]
  rw [e]
  have ht : Finset.univ.fold max ⊥ s ≠ ⊤ := by
    refine ne_of_lt ((Finset.fold_max_lt ⊤).mpr ⟨bot_lt_top, fun j _ => ?_⟩)
    obtain ⟨a, ha⟩ := h j
    rw [ha]; exact EReal.coe_lt_top a
  have hb : Finset.univ.fold max ⊥ s ≠ ⊥ := by
    refine ne_of_gt ((Finset.lt_fold_max ⊥).mpr (Or.inr ⟨0, Finset.mem_univ _, ?_⟩))
    obtain ⟨a, ha⟩ := h 0
    rw [ha]; exact EReal.bot_lt_coe a
  exact ⟨_, (EReal.coe_toReal ht hb).symm⟩

section Token

variable (x : Fin 256 → EReal) (rw : (⟨2, ![256, 128]⟩ : Shape).Idx → EReal)

/-- The scores are reals. -/
theorem score_real (hx : ∀ k, ∃ a : ℝ, x k = a) (hr : ∀ i, ∃ a : ℝ, rw i = a) (j : Fin 128) : ∃ a : ℝ, score x rw j = a :=
  sum_real _ _ fun k => by
    obtain ⟨a, ha⟩ := hx k
    obtain ⟨b, hb⟩ := hr (ix2 k j)
    exact ⟨a * b, by rw [ha, hb, EReal.coe_mul]⟩

/-- The exponentials are positive reals. -/
theorem expo_real (hx : ∀ k, ∃ a : ℝ, x k = a) (hr : ∀ i, ∃ a : ℝ, rw i = a) (j : Fin 128) :
    ∃ a : ℝ, 0 < a ∧ expo x rw j = a := by
  obtain ⟨p, hp⟩ := score_real x rw hx hr j
  obtain ⟨q, hq⟩ := max_real _ (score_real x rw hx hr)
  refine ⟨Real.exp (p - q), Real.exp_pos _, ?_⟩
  unfold expo
  rw [hq, hp, ← EReal.coe_sub]
  rfl

/-- The softmax is a nonnegative real. -/
theorem prob_real (hx : ∀ k, ∃ a : ℝ, x k = a) (hr : ∀ i, ∃ a : ℝ, rw i = a) (j : Fin 128) :
    0 ≤ prob x rw j ∧ prob x rw j ≠ ⊤ := by
  obtain ⟨p, hp, ep⟩ := expo_real x rw hx hr j
  obtain ⟨q, hq, eq⟩ := sum_pos_real _ (expo_real x rw hx hr)
  have e : prob x rw j = ((p * q⁻¹ : ℝ) : EReal) := by
    unfold prob Ideal.div
    rw [ep, eq, if_neg (by exact_mod_cast hq.ne'), EReal.coe_mul, EReal.coe_inv]
  rw [e]
  exact ⟨EReal.coe_nonneg.mpr (by positivity), EReal.coe_ne_top _⟩

/-- An expert's weight is a nonnegative real. -/
theorem gate_real (hx : ∀ k, ∃ a : ℝ, x k = a) (hr : ∀ i, ∃ a : ℝ, rw i = a) (w : BitVec 32) (j : Fin 128) :
    0 ≤ gate x rw w j ∧ gate x rw w j ≠ ⊤ := by
  unfold gate
  split
  · exact prob_real x rw hx hr j
  · exact ⟨le_refl _, EReal.zero_ne_top⟩

/-- An expert's term is its weight times the token's product. -/
theorem term_out (hx : ∀ k, ∃ a : ℝ, x k = a) (hr : ∀ i, ∃ a : ℝ, rw i = a) (w : BitVec 32)
    (W : Fin 128 → Fin 256 → Fin 512 → EReal) (h : Fin 512) (j : Fin 128) :
    gate x rw w j * ∑ k : Fin 256, x k * W j k h = term x rw w W h j := by
  obtain ⟨h0, ht⟩ := gate_real x rw hx hr w j
  rw [mul_sum_real _ _ h0 ht]
  exact Finset.sum_congr rfl fun k _ => by rw [mul_left_comm, mul_assoc]

end Token

end Cert.Ring

end
-- ==== Proof.TokenVal.lean ====
/-
What the value of the reference that weights each expert's product is, at a row and a column.
-/
module

public import proofs.«01_k».proof.Proof.Spec
public import proofs.«01_k».proof.Proof.Gen.ReferenceByTokenIdeal.Run

@[expose] public section

set_option maxRecDepth 16384

noncomputable section

namespace Cert.TokenVal

open Cert.ReferenceByTokenIdeal Cert.ReferenceByTokenIdeal.Gen Cert.Ring
open Idealize Idealize.ShloMosaic
open scoped BigOperators

variable (x : FVec Ideal S32768x256 .f32) (rw : FVec Ideal S256x128 .f32) (idx : IVec S32768x1 32)
  (ew : FVec Ideal S128x256x512 .f32) (sw : FVec Ideal S256x512 .f32)

/-- The exponentials of the scores less the row's greatest. -/
def expT : FVec Ideal S32768x128 .f32 :=
  Host.exp (subf (Host.dotGeneral dot_S32768x256_S256x128_S32768x128_1_0_0_1_n_n none x rw) (broadcastInDim S32768x128 ![0, 1] bcast_S32768x1_S32768x128_0_1 (broadcastInDim S32768x1 ![0] bcast_S32768_S32768x1_0 (Host.reduce FloatOps.maximumf (Host.dotGeneral dot_S32768x256_S256x128_S32768x128_1_0_0_1_n_n none x rw) (constant S_ .f32 0xFF800000#32) reducesTo_S32768x128_S32768_d1 h_S_))))

/-- The weights: the softmax where the expert is the token's, zero elsewhere. -/
def weightT : FVec Ideal S32768x128 .f32 :=
  select (cmpi .eq (broadcastInDim S32768x128 ![0, 1] bcast_S32768x1_S32768x128_0_1 idx) (broadcastInDim S32768x128 ![0, 1] bcast_S1x128_S32768x128_0_1 (broadcastInDim S1x128 ![1] bcast_S128_S1x128_1 (iotaInDim S128 32 0)))) (Host.divf (expT x rw) (broadcastInDim S32768x128 ![0, 1] bcast_S32768x1_S32768x128_0_1 (broadcastInDim S32768x1 ![0] bcast_S32768_S32768x1_0 (Host.reduceAdd (expT x rw) (constant S_ .f32 0x00000000#32) reducesTo_S32768x128_S32768_d1 h_S_)))) (broadcastInDim S32768x128 ![] bcast_S_S32768x128 (id (constant S_ .f32 0x00000000#32)))

/-- The reference's value. -/
def outT : FVec Ideal S32768x512 .f32 :=
  addf (Host.dotGeneral dot_S32768x256_S256x512_S32768x512_1_0_0_1_n_n none x sw) (Host.reduceAdd (mulf (broadcastInDim S32768x128x512 ![0, 1, 2] bcast_S32768x128x1_S32768x128x512_0_1_2 (broadcastInDim S32768x128x1 ![0, 1] bcast_S32768x128_S32768x128x1_0_1 (weightT x rw idx))) (Host.dotGeneral dot_S32768x256_S128x256x512_S32768x128x512_1_1_0_02_n_n none x ew)) (constant S_ .f32 0x00000000#32) reducesTo_S32768x128x512_S32768x512_d1 h_S_)

/-- A row of the tokens. -/
abbrev rowT (r : Fin 32768) : Fin 256 → EReal := fun k => x (ix2 r k)

/-- The exponentials at a row and an expert. -/
theorem exp_at (r : Fin 32768) (j : Fin 128) : expT x rw (ix2 r j) = expo (rowT x r) rw j := by
  pointwise [expT]
  rfl

/-- The weights at a row and an expert. -/
theorem weight_at (r : Fin 32768) (j : Fin 128) : weightT x rw idx (ix2 r j) = gate (rowT x r) rw (idx (ix2 r 0)) j := by
  pointwise [weightT]
  rw [select_eq]
  simp only [exp_at]
  show (if _ then _ else Ideal.ofBits .f32 0x00000000#32) = _
  rw [Ideal.ofBits_zero_f32]
  rfl

/-- The reference at a row and a column: the shared product and every expert's weighted product. -/
theorem outT_at (r : Fin 32768) (h : Fin 512) :
    outT x rw idx ew sw (ix2 r h) = (∑ k : Fin 256, x (ix2 r k) * sw (ix2 k h))
      + ∑ j : Fin 128, gate (rowT x r) rw (idx (ix2 r 0)) j * ∑ k : Fin 256, x (ix2 r k) * ew (ix3 j k h) := by
  have hw := weight_at x rw idx r
  unfold outT
  generalize weightT x rw idx = g at hw
  pointwise []
  simp only [hw]

/-- The reference's run: its result is `outT` of its operands, which it leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = outT (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceByTokenIdeal.Value.run (F := Ideal) m ρ

end Cert.TokenVal

end
-- ==== Proof.EqualByToken.lean ====
/-
The kernel and the reference that weights each expert's product, on finite tokens and router's weights.
-/
module

public import proofs.«01_k».proof.Defs
public import proofs.«01_k».proof.Proof.Equal
public import proofs.«01_k».proof.Proof.Finite
public import proofs.«01_k».proof.Proof.TokenVal
public import proofs.«01_k».proof.Proof.Gen.Pre_finite_scores_KernelIdeal
public import Idealize.ShloMosaic.Lib.ReduceAll

@[expose] public section

set_option maxRecDepth 8000

noncomputable section

namespace Cert.ByToken

open Cert.Ring
open Idealize Idealize.ShloMosaic
open Idealize.ShloMosaic.TcCoe
open Idealize.SL.Sem
open scoped BigOperators

/-- A value whose magnitude is below infinity is a real. -/
theorem real_of_lt (a : EReal) (h : Ideal.cmp .olt (max a (-a)) (Ideal.ofBits .f32 0x7F800000#32) = 1#1) : ∃ r : ℝ, a = r := by
  have htop : Ideal.ofBits .f32 0x7F800000#32 = ⊤ := by simp [Ideal.ofBits, Ideal.ieee]
  rw [htop] at h
  induction a with
  | bot => exact absurd h (by simp [Ideal.cmp])
  | top => exact absurd h (by simp [Ideal.cmp])
  | coe r => exact ⟨r, rfl⟩

section Opened

open Cert.Pre_finite_scores_KernelIdeal

/-- The shape of a single word has one index. -/
instance : Subsingleton S_.Idx := ⟨fun _ _ => funext fun a => a.elim0⟩

/-- The precondition on a device's arrays: its tokens and the router's weights are reals. -/
theorem opened (x : FVec Ideal S1024x256 .f32) (rw : FVec Ideal S256x128 .f32) (i : IVec S1024x1 32) (ew : FVec Ideal S4x256x512 .f32)
    (sw : FVec Ideal S256x512 .f32) (h : fn (F := Ideal) x rw i ew sw = fun _ => 1#1) :
    (∀ j, ∃ r : ℝ, x j = r) ∧ ∀ j, ∃ r : ℝ, rw j = r := by
  have e := congrFun h (fun a => a.elim0)
  obtain ⟨p, q⟩ := IntOp.andi_eq_one.1 e
  exact ⟨fun j => real_of_lt _ (Host.reduce_andi_all _ _ _ _ _ p j), fun j => real_of_lt _ (Host.reduce_andi_all _ _ _ _ _ q j)⟩

end Opened

section Values

variable (X : (⟨2, ![32768, 256]⟩ : Shape).Idx → EReal) (RW : (⟨2, ![256, 128]⟩ : Shape).Idx → EReal)
  (I : (⟨2, ![32768, 1]⟩ : Shape).Idx → BitVec 32) (EW : (⟨3, ![128, 256, 512]⟩ : Shape).Idx → EReal)
  (SW : (⟨2, ![256, 512]⟩ : Shape).Idx → EReal)

/-- On finite tokens and router's weights the two references have one value. -/
theorem out_eq (hx : ∀ i, ∃ a : ℝ, X i = a) (hr : ∀ i, ∃ a : ℝ, RW i = a) :
    TokenVal.outT X RW I EW SW = RefVal.outR X RW I EW SW := by
  funext i
  obtain ⟨r, h, rfl⟩ : ∃ (r : Fin 32768) (h : Fin 512), i = ix2 r h := ⟨i 0, i 1, eq_ix2 i⟩
  rw [TokenVal.outT_at, RefVal.outR_at]
  refine congrArg _ (Finset.sum_congr rfl fun j _ => ?_)
  exact term_out _ RW (fun k => hx (ix2 r k)) hr _ (fun j k h => EW (ix3 j k h)) h j

/-- Where every device's tokens are finite, all are. -/
theorem all_rows (h : ∀ c : Fin 32, ∀ j, ∃ a : ℝ, Layout.block ⟨2, ![1024, 256]⟩ ⟨2, ![32768, 256]⟩ 0 32 c X (by decide) j = a) (i) :
    ∃ a : ℝ, X i = a := by
  obtain ⟨r, k, rfl⟩ : ∃ (r : Fin 32768) (k : Fin 256), i = ix2 r k := ⟨i 0, i 1, eq_ix2 i⟩
  have hr := r.isLt
  have e := h ⟨r.val / 1024, by omega⟩ (ix2 ⟨r.val % 1024, by omega⟩ k)
  rw [block_x] at e
  have hrow : rowOf ⟨r.val / 1024, by omega⟩ ⟨r.val % 1024, by omega⟩ = r := Fin.ext (by show r.val / 1024 * 1024 + r.val % 1024 = r.val; omega)
  rwa [hrow] at e

end Values

open Cert.KernelIdeal Cert.KernelIdeal.Gen

/-- The kernel on its devices and the reference that weights each expert's product compute, on finite tokens and router's
weights, the same function over the extended reals. -/
theorem algebraic : Cert.algebraic_KernelIdeal_ReferenceByTokenIdeal_pre_finite_scores_KernelIdeal := by
  intro m g m' g' hpre hagree
  refine ⟨TokenVal.outT (m' (((0 : Dev Cert.ReferenceByTokenIdeal.nD).tc : Thread Cert.ReferenceByTokenIdeal.nD Cert.ReferenceByTokenIdeal.τ).loc Cert.ReferenceByTokenIdeal.main_arg0))
    (m' (((0 : Dev Cert.ReferenceByTokenIdeal.nD).tc : Thread Cert.ReferenceByTokenIdeal.nD Cert.ReferenceByTokenIdeal.τ).loc Cert.ReferenceByTokenIdeal.main_arg1))
    (m' (((0 : Dev Cert.ReferenceByTokenIdeal.nD).tc : Thread Cert.ReferenceByTokenIdeal.nD Cert.ReferenceByTokenIdeal.τ).loc Cert.ReferenceByTokenIdeal.main_arg2))
    (m' (((0 : Dev Cert.ReferenceByTokenIdeal.nD).tc : Thread Cert.ReferenceByTokenIdeal.nD Cert.ReferenceByTokenIdeal.τ).loc Cert.ReferenceByTokenIdeal.main_arg3))
    (m' (((0 : Dev Cert.ReferenceByTokenIdeal.nD).tc : Thread Cert.ReferenceByTokenIdeal.nD Cert.ReferenceByTokenIdeal.τ).loc Cert.ReferenceByTokenIdeal.main_arg4)), ?_, ?_⟩
  · refine (θ_run defs _ _).mono (fun r h c => ⟨?_, kept m g h.1 c⟩) (run_main (F := Ideal) m g)
    refine ((h.1 c (5 : Fin 6)).trans (finalA_out m g c)).trans ?_
    have hw : ewI m g = fun d => Layout.block ⟨3, ![4, 256, 512]⟩ ⟨3, ![128, 256, 512]⟩ 0 32 d
        (m' (((0 : Dev Cert.ReferenceByTokenIdeal.nD).tc : Thread Cert.ReferenceByTokenIdeal.nD Cert.ReferenceByTokenIdeal.τ).loc Cert.ReferenceByTokenIdeal.main_arg3)) (by decide) :=
      funext fun d => (ewI_eq m g d).trans (hagree d).2.2.2.1
    have hx := all_rows _ fun d => (hagree d).1 ▸ (opened _ _ _ _ _ (hpre d)).1
    have hr := (hagree c).2.1 ▸ (opened _ _ _ _ _ (hpre c)).2
    unfold outI
    rw [hw, xI_eq, rwI_eq, idxI_eq, swI_eq, (hagree c).1, (hagree c).2.1, (hagree c).2.2.1, (hagree c).2.2.2.2]
    refine (bridge _ _ _ _ _ c).trans ?_
    rw [← out_eq _ _ _ _ _ hx hr]
  · exact (θ_run Cert.ReferenceByTokenIdeal.defs _ _).mono (fun _ h => h 0) (TokenVal.run m' g')

end Cert.ByToken

end
-- ==== Proof.lean ====
/-
The claims, each from its module.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceByTokenIdeal
public import proofs.«01_k».proof.Proof.Gen.ReferenceByTokenIdeal.Run
public import proofs.«01_k».proof.Proof.Gen.Pre_finite_scores_KernelIdeal
public import proofs.«01_k».proof.Proof.Gen.Pre_finite_scores_ReferenceByTokenIdeal
public import proofs.«01_k».proof.Proof.Frames
public import proofs.«01_k».proof.Proof.Equal
public import proofs.«01_k».proof.Proof.EqualByToken
public import Idealize.ShloMosaic.Adequacy
public import Idealize.ShloMosaic.Init

@[expose] public section

noncomputable section

namespace Cert.Proof

open Idealize.ShloMosaic Idealize.SL.Sem Cert.Kernel

/-- The reference leaves its operands and every counter at zero. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The reference that weights each expert's product leaves its operands and every counter at zero. -/
theorem frame_by_token : Cert.quiescent_ReferenceByTokenIdeal := fun m ρ _ =>
  (θ_run Cert.ReferenceByTokenIdeal.defs _ _).mono (fun r h => ⟨fun c => (h c).2, Idealize.ShloMosaic.sem_eq_zero_of_no_sems (by decide) r.2⟩)
    (Cert.ReferenceByTokenIdeal.Value.run (F := Ideal) m ρ)

/-- Everything the certificate claims. -/
theorem claim : Cert.Claim := ⟨Cert.Kernel.Gen.facts, Cert.KernelIdeal.Gen.facts, Cert.ReferenceIdeal.Gen.facts, Cert.ReferenceByTokenIdeal.Gen.facts,
  Cert.Pre_finite_scores_KernelIdeal.Gen.facts, Cert.Pre_finite_scores_ReferenceByTokenIdeal.Gen.facts,
  Cert.Ring.frame_kernel, Cert.Ring.frame_ideal, fun m g _ => Cert.Ring.frame_ideal m g trivial, frame_ref, frame_by_token,
  fun m g _ => frame_by_token m g trivial, trivial, Cert.Ring.algebraic, Cert.ByToken.algebraic⟩

end Cert.Proof

end
